-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x128 : Shape := ⟨3, ![4, 4096, 128]⟩
abbrev S4x4096x5 : Shape := ⟨3, ![4, 4096, 5]⟩
abbrev S1x4096x128 : Shape := ⟨3, ![1, 4096, 128]⟩
abbrev S1x1024x5 : Shape := ⟨3, ![1, 1024, 5]⟩
abbrev S4096x128 : Shape := ⟨2, ![4096, 128]⟩
abbrev S4096 : Shape := ⟨1, ![4096]⟩
abbrev S4096x1 : Shape := ⟨2, ![4096, 1]⟩
abbrev S1024x128 : Shape := ⟨2, ![1024, 128]⟩
abbrev S1024x4096 : Shape := ⟨2, ![1024, 4096]⟩
abbrev S1024 : Shape := ⟨1, ![1024]⟩
abbrev S1024x1 : Shape := ⟨2, ![1024, 1]⟩
abbrev S1024x5 : Shape := ⟨2, ![1024, 5]⟩
abbrev S4 : Shape := ⟨1, ![4]⟩
abbrev S_ : Shape := ⟨0, ![]⟩
abbrev S4x1x1 : Shape := ⟨3, ![4, 1, 1]⟩
abbrev S1x4096x1 : Shape := ⟨3, ![1, 4096, 1]⟩
abbrev S81920 : Shape := ⟨1, ![81920]⟩
abbrev S1x81920 : Shape := ⟨2, ![1, 81920]⟩
abbrev S2x81920 : Shape := ⟨2, ![2, 81920]⟩

abbrev nBuf : Space → Nat
  | .hbm => 21
  | .vmem => 7
  | .smem => 0
  | _ => 0

abbrev bufTy : (tb : Table) → Fin (tcTables nBuf tb) → BufTy
  | .hbm, ⟨0, _⟩ => ⟨S4x4096x128, .f32⟩
  | .hbm, ⟨1, _⟩ => ⟨S4x4096x5, .i32⟩
  | .hbm, ⟨2, _⟩ => ⟨S4x4096x5, .f32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i32⟩
  | .hbm, ⟨7, _⟩ => ⟨S4x1x1, .i32⟩
  | .hbm, ⟨8, _⟩ => ⟨S4096, .i32⟩
  | .hbm, ⟨9, _⟩ => ⟨S1x4096x1, .i32⟩
  | .hbm, ⟨10, _⟩ => ⟨S4x4096x5, .i32⟩
  | .hbm, ⟨11, _⟩ => ⟨S4x4096x5, .i32⟩
  | .hbm, ⟨12, _⟩ => ⟨S4x4096x5, .i32⟩
  | .hbm, ⟨13, _⟩ => ⟨S4x4096x5, .i32⟩
  | .hbm, ⟨14, _⟩ => ⟨S4x4096x5, .i32⟩
  | .hbm, ⟨15, _⟩ => ⟨S81920, .i32⟩
  | .hbm, ⟨16, _⟩ => ⟨S81920, .i32⟩
  | .hbm, ⟨17, _⟩ => ⟨S1x81920, .i32⟩
  | .hbm, ⟨18, _⟩ => ⟨S1x81920, .i32⟩
  | .hbm, ⟨19, _⟩ => ⟨S2x81920, .i32⟩
  | .hbm, ⟨20, _⟩ => ⟨S81920, .f32⟩
  | .local _ .vmem, ⟨0, _⟩ => ⟨S1x4096x128, .f32⟩
  | .local _ .vmem, ⟨1, _⟩ => ⟨S1x4096x128, .f32⟩
  | .local _ .vmem, ⟨2, _⟩ => ⟨S1x1024x5, .i32⟩
  | .local _ .vmem, ⟨3, _⟩ => ⟨S1x1024x5, .i32⟩
  | .local _ .vmem, ⟨4, _⟩ => ⟨S1x1024x5, .f32⟩
  | .local _ .vmem, ⟨5, _⟩ => ⟨S1x1024x5, .f32⟩
  | .local _ .vmem, ⟨6, _⟩ => ⟨S4096x128, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_off1 (i : grid0.Coords) : Fin 2 → Nat :=
  let arg1 : BitVec 32 := BitVec.ofNat 32 (i 1).val
  let c1024_i32 : BitVec 32 := 1024#32
  let v4 : BitVec 32 := Scalar.muli arg1 c1024_i32
  let v5 : Index := Scalar.indexCast v4
  let c0_2 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x5 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4x4096x128 : Shape := ⟨3, ![4, 4096, 128]⟩
abbrev S4x128x4096 : Shape := ⟨3, ![4, 128, 4096]⟩
abbrev S_ : Shape := ⟨0, ![]⟩
abbrev S4x4096 : Shape := ⟨2, ![4, 4096]⟩
abbrev S4x1x4096 : Shape := ⟨3, ![4, 1, 4096]⟩
abbrev S4x4096x4096 : Shape := ⟨3, ![4, 4096, 4096]⟩
abbrev S4096x4096 : Shape := ⟨2, ![4096, 4096]⟩
abbrev S1x4096x4096 : Shape := ⟨3, ![1, 4096, 4096]⟩
abbrev S4x4096x5 : Shape := ⟨3, ![4, 4096, 5]⟩
abbrev S4x4096x5x1 : Shape := ⟨4, ![4, 4096, 5, 1]⟩
abbrev S1 : Shape := ⟨1, ![1]⟩
abbrev S1x1x1x1 : Shape := ⟨4, ![1, 1, 1, 1]⟩
abbrev S4 : Shape := ⟨1, ![4]⟩
abbrev S4x1x1 : Shape := ⟨3, ![4, 1, 1]⟩
abbrev S4096 : Shape := ⟨1, ![4096]⟩
abbrev S1x4096x1 : Shape := ⟨3, ![1, 4096, 1]⟩
abbrev S81920 : Shape := ⟨1, ![81920]⟩
abbrev S1x81920 : Shape := ⟨2, ![1, 81920]⟩
abbrev S2x81920 : Shape := ⟨2, ![2, 81920]⟩

abbrev nBuf : Space → Nat
  | .hbm => 98
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S4x128x4096, .f32⟩
  | .hbm, ⟨2, _⟩ => ⟨S_, .f32⟩
  | .hbm, ⟨3, _⟩ => ⟨S4x4096, .f32⟩
  | .hbm, ⟨4, _⟩ => ⟨S4x1x4096, .f32⟩
  | .hbm, ⟨5, _⟩ => ⟨S_, .f32⟩
  | .hbm, ⟨6, _⟩ => ⟨S4x1x4096, .f32⟩
  | .hbm, ⟨7, _⟩ => ⟨S4x1x4096, .f32⟩
  | .hbm, ⟨8, _⟩ => ⟨S_, .i32⟩
  | .hbm, ⟨9, _⟩ => ⟨S_, .f32⟩
  | .hbm, ⟨10, _⟩ => ⟨S4x4096, .f32⟩
  | .hbm, ⟨11, _⟩ => ⟨S4x1x4096, .f32⟩
  | .hbm, ⟨12, _⟩ => ⟨S_, .f32⟩
  | .hbm, ⟨13, _⟩ => ⟨S4x1x4096, .f32⟩
  | .hbm, ⟨14, _⟩ => ⟨S4x1x4096, .f32⟩
  | .hbm, ⟨15, _⟩ => ⟨S4x128x4096, .f32⟩
  | .hbm, ⟨16, _⟩ => ⟨S4x128x4096, .f32⟩
  | .hbm, ⟨17, _⟩ => ⟨S4x128x4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4x4096, .f32⟩
  | .hbm, ⟨23, _⟩ => ⟨S4x1x4096, .f32⟩
  | .hbm, ⟨24, _⟩ => ⟨S4x1x4096, .f32⟩
  | .hbm, ⟨25, _⟩ => ⟨S4x1x4096, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S4x1x4096, .f32⟩
  | .hbm, ⟨31, _⟩ => ⟨S4x1x4096, .f32⟩
  | .hbm, ⟨32, _⟩ => ⟨S4x1x4096, .f32⟩
  | .hbm, ⟨33, _⟩ => ⟨S4x128x4096, .f32⟩
  | .hbm, ⟨34, _⟩ => ⟨S4x128x4096, .f32⟩
  | .hbm, ⟨35, _⟩ => ⟨S_, .f32⟩
  | .hbm, ⟨36, _⟩ => ⟨S4x1x4096, .f32⟩
  | .hbm, ⟨37, _⟩ => ⟨S4x1x4096, .f32⟩
  | .hbm, ⟨38, _⟩ => ⟨S4x128x4096, .f32⟩
  | .hbm, ⟨39, _⟩ => ⟨S4x128x4096, .f32⟩
  | .hbm, ⟨40, _⟩ => ⟨S4x4096x4096, .f32⟩
  | .hbm, ⟨41, _⟩ => ⟨S_, .f32⟩
  | .hbm, ⟨42, _⟩ => ⟨S4x4096x4096, .f32⟩
  | .hbm, ⟨43, _⟩ => ⟨S4x4096x4096, .f32⟩
  | .hbm, ⟨44, _⟩ => ⟨S4096x4096, .i32⟩
  | .hbm, ⟨45, _⟩ => ⟨S4096x4096, .i32⟩
  | .hbm, ⟨46, _⟩ => ⟨S_, .i32⟩
  | .hbm, ⟨47, _⟩ => ⟨S4096x4096, .i32⟩
  | .hbm, ⟨48, _⟩ => ⟨S4096x4096, .i32⟩
  | .hbm, ⟨49, _⟩ => ⟨S4096x4096, .i1⟩
  | .hbm, ⟨50, _⟩ => ⟨S1x4096x4096, .i1⟩
  | .hbm, ⟨51, _⟩ => ⟨S_, .f32⟩
  | .hbm, ⟨52, _⟩ => ⟨S_, .f32⟩
  | .hbm, ⟨53, _⟩ => ⟨S4x4096x4096, .i1⟩
  | .hbm, ⟨54, _⟩ => ⟨S4x4096x4096, .f32⟩
  | .hbm, ⟨55, _⟩ => ⟨S4x4096x4096, .f32⟩
  | .hbm, ⟨56, _⟩ => ⟨S4x4096x5, .f32⟩
  | .hbm, ⟨57, _⟩ => ⟨S4x4096x5, .i32⟩
  | .hbm, ⟨58, _⟩ => ⟨S_, .i32⟩
  | .hbm, ⟨59, _⟩ => ⟨S4x4096x5, .i32⟩
  | .hbm, ⟨60, _⟩ => ⟨S4x4096x5, .i1⟩
  | .hbm, ⟨61, _⟩ => ⟨S_, .i32⟩
  | .hbm, ⟨62, _⟩ => ⟨S4x4096x5, .i32⟩
  | .hbm, ⟨63, _⟩ => ⟨S4x4096x5, .i32⟩
  | .hbm, ⟨64, _⟩ => ⟨S4x4096x5, .i32⟩
  | .hbm, ⟨65, _⟩ => ⟨S4x4096x5x1, .i32⟩
  | .hbm, ⟨66, _⟩ => ⟨S1, .i32⟩
  | .hbm, ⟨67, _⟩ => ⟨S_, .i32⟩
  | .hbm, ⟨68, _⟩ => ⟨S4x4096x5x1, .i32⟩
  | .hbm, ⟨69, _⟩ => ⟨S4x4096x5x1, .i1⟩
  | .hbm, ⟨70, _⟩ => ⟨S1x1x1x1, .i32⟩
  | .hbm, ⟨71, _⟩ => ⟨S4x4096x5x1, .i32⟩
  | .hbm, ⟨72, _⟩ => ⟨S4x4096x5x1, .i1⟩
  | .hbm, ⟨73, _⟩ => ⟨S4x4096x5x1, .i1⟩
  | .hbm, ⟨74, _⟩ => ⟨S_, .i1⟩
  | .hbm, ⟨75, _⟩ => ⟨S4x4096x5, .i1⟩
  | .hbm, ⟨76, _⟩ => ⟨S4x4096x5, .f32⟩
  | .hbm, ⟨77, _⟩ => ⟨S_, .f32⟩
  | .hbm, ⟨78, _⟩ => ⟨S4x4096x5, .f32⟩
  | .hbm, ⟨79, _⟩ => ⟨S4x4096x5, .f32⟩
  | .hbm, ⟨80, _⟩ => ⟨S4, .i32⟩
  | .hbm, ⟨81, _⟩ => ⟨S_, .i32⟩
  | .hbm, ⟨82, _⟩ => ⟨S4, .i32⟩
  | .hbm, ⟨83, _⟩ => ⟨S4, .i32⟩
  | .hbm, ⟨84, _⟩ => ⟨S4x1x1, .i32⟩
  | .hbm, ⟨85, _⟩ => ⟨S4096, .i32⟩
  | .hbm, ⟨86, _⟩ => ⟨S1x4096x1, .i32⟩
  | .hbm, ⟨87, _⟩ => ⟨S4x4096x5, .i32⟩
  | .hbm, ⟨88, _⟩ => ⟨S4x4096x5, .i32⟩
  | .hbm, ⟨89, _⟩ => ⟨S4x4096x5, .i32⟩
  | .hbm, ⟨90, _⟩ => ⟨S4x4096x5, .i32⟩
  | .hbm, ⟨91, _⟩ => ⟨S4x4096x5, .i32⟩
  | .hbm, ⟨92, _⟩ => ⟨S81920, .i32⟩
  | .hbm, ⟨93, _⟩ => ⟨S81920, .i32⟩
  | .hbm, ⟨94, _⟩ => ⟨S1x81920, .i32⟩
  | .hbm, ⟨95, _⟩ => ⟨S1x81920, .i32⟩
  | .hbm, ⟨96, _⟩ => ⟨S2x81920, .i32⟩
  | .hbm, ⟨97, _⟩ => ⟨S81920, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_cst_0 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_cst_1 : Ref sig .tc := ⟨.hbm, 19, rfl⟩
abbrev main_call0_call0_v8 : Ref sig .tc := ⟨.hbm, 20, rfl⟩
abbrev main_call0_call0_cst_2 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_call0_v12 : Ref sig .tc := ⟨.hbm, 25, rfl⟩
abbrev main_call0_call0_cst_3 : Ref sig .tc := ⟨.hbm, 26, rfl⟩
abbrev main_call0_call0_v13 : Ref sig .tc := ⟨.hbm, 27, rfl⟩
abbrev main_call0_call0_cst_4 : Ref sig .tc := ⟨.hbm, 28, rfl⟩
abbrev main_call0_call0_call0_v0 : Ref sig .tc := ⟨.hbm, 29, rfl⟩
abbrev main_call0_call0_call0_v1 : Ref sig .tc := ⟨.hbm, 30, rfl⟩
abbrev main_call0_v0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst_2 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_3 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst_4 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v21 : Ref sig .tc := ⟨.hbm, 55, rfl⟩
abbrev main_values : Ref sig .tc := ⟨.hbm, 56, rfl⟩
abbrev main_indices : Ref sig .tc := ⟨.hbm, 57, rfl⟩
abbrev main_call2_c : Ref sig .tc := ⟨.hbm, 58, rfl⟩
abbrev main_call2_v0 : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_c_1 : Ref sig .tc := ⟨.hbm, 66, rfl⟩
abbrev main_call2_c_2 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_3 : Ref sig .tc := ⟨.hbm, 74, rfl⟩
abbrev main_call2_v12 : Ref sig .tc := ⟨.hbm, 75, rfl⟩
abbrev main_call2_v13 : Ref sig .tc := ⟨.hbm, 76, rfl⟩
abbrev main_call2_cst : Ref sig .tc := ⟨.hbm, 77, rfl⟩
abbrev main_call2_v14 : Ref sig .tc := ⟨.hbm, 78, rfl⟩
abbrev main_v22 : Ref sig .tc := ⟨.hbm, 79, rfl⟩
abbrev main_v23 : Ref sig .tc := ⟨.hbm, 80, rfl⟩
abbrev main_c_5 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩

abbrev nD : Nat := 1
abbrev τ : Topo := Topo.v7x

variable {F : FTy → Type} [FloatOps F]
-- ==== Proof.Rounds.lean ====
/-
  The mathematics of a top-k by repeated maximum, on one row `w : Fin n → EReal`.

  A ROUND looks for the greatest entry, takes the least position that attains it (`pick`), and overwrites that entry with
  `⊥` (`knock`).  `state f k` is the row after `k` rounds, `sel f k` the position that round `k` picks.  As long as the
  row has enough entries above `⊥`, the positions picked are the first positions of the row's STABLE sort, greater
  entries first (`sortedFrom_eq_sel`), and the maximum met in each round is the row's own entry there (`state_sel`).
-/
module

public import Idealize.ShloMosaic.Lib.SortPrefix
public import Mathlib.Data.EReal.Basic

@[expose] public section

noncomputable section

namespace Cert.Rounds

open Idealize.ShloMosaic

/-! ## One round -/

section Round

variable {n : ℕ} [NeZero n]

/-- `p` is the least position at which `w` is greatest. -/
def IsPick (w : Fin n → EReal) (p : Fin n) : Prop :=
  (∀ q, w q ≤ w p) ∧ ∀ q, w q = w p → p ≤ q

/-- A row has a least position attaining its maximum. -/
theorem exists_isPick (w : Fin n → EReal) : ∃ p, IsPick w p := by
  obtain ⟨p₀, -, h₀⟩ := Finset.exists_max_image (Finset.univ : Finset (Fin n)) w ⟨0, Finset.mem_univ _⟩
  obtain ⟨p, hp, h⟩ := Finset.exists_min_image (Finset.univ.filter fun q => w q = w p₀) id
    ⟨p₀, Finset.mem_filter.mpr ⟨Finset.mem_univ _, rfl⟩⟩
  have e : w p = w p₀ := (Finset.mem_filter.mp hp).2
  exact ⟨p, fun q => e ▸ h₀ q (Finset.mem_univ _),
    fun q hq => h q (Finset.mem_filter.mpr ⟨Finset.mem_univ _, hq.trans e⟩)⟩

/-- The position a round picks. -/
def pick (w : Fin n → EReal) : Fin n := (exists_isPick w).choose

/-- The position picked is one. -/
theorem isPick_pick (w : Fin n → EReal) : IsPick w (pick w) := (exists_isPick w).choose_spec

/-- The row with the entry at `p` overwritten by `⊥`. -/
def knock (w : Fin n → EReal) (p : Fin n) : Fin n → EReal := fun q => if q = p then ⊥ else w q

/-- The row after `k` rounds. -/
def state (f : Fin n → EReal) : ℕ → Fin n → EReal
  | 0 => f
  | k + 1 => knock (state f k) (pick (state f k))

/-- The position that round `k` picks. -/
def sel (f : Fin n → EReal) (k : ℕ) : Fin n := pick (state f k)

/-- A round knocks out the position it picks. -/
theorem state_succ (f : Fin n → EReal) (k : ℕ) : state f (k + 1) = knock (state f k) (sel f k) := rfl

/-- After `k` rounds an entry is `⊥` if one of them picked it and otherwise what it was. -/
theorem state_apply (f : Fin n → EReal) (k : ℕ) (q : Fin n) :
    ((∃ j < k, sel f j = q) ∧ state f k q = ⊥) ∨ ((∀ j < k, sel f j ≠ q) ∧ state f k q = f q) := by
  induction k with
  | zero => exact .inr ⟨fun j hj => absurd hj (Nat.not_lt_zero j), rfl⟩
  | succ k ih =>
    by_cases hq : q = sel f k
    · exact .inl ⟨⟨k, Nat.lt_succ_self k, hq.symm⟩, by rw [state_succ]; exact if_pos hq⟩
    · have e : state f (k + 1) q = state f k q := by rw [state_succ]; exact if_neg hq
      rcases ih with ⟨⟨j, hj, hs⟩, h⟩ | ⟨hn, h⟩
      · exact .inl ⟨⟨j, Nat.lt_succ_of_lt hj, hs⟩, e.trans h⟩
      · refine .inr ⟨fun j hj hs => ?_, e.trans h⟩
        rcases Nat.lt_succ_iff_lt_or_eq.mp hj with h' | h'
        · exact hn j h' hs
        · exact hq (h' ▸ hs).symm

/-- The row has at least `K` entries above `⊥`: for any fewer positions some other entry is above `⊥`. -/
def Enough (f : Fin n → EReal) (K : ℕ) : Prop := ∀ s : Finset (Fin n), s.card < K → ∃ q, q ∉ s ∧ ⊥ < f q

variable {f : Fin n → EReal} {K : ℕ} (hf : Enough f K)
include hf

/-- In each of the first `K` rounds the maximum is above `⊥`. -/
theorem bot_lt_state_sel {k : ℕ} (hk : k < K) : ⊥ < state f k (sel f k) := by
  obtain ⟨q, hq, hlt⟩ := hf ((Finset.range k).image (sel f)) (lt_of_le_of_lt Finset.card_image_le (by simpa using hk))
  have h : state f k q = f q := by
    rcases state_apply f k q with ⟨⟨j, hj, hs⟩, -⟩ | ⟨-, h⟩
    · exact absurd (Finset.mem_image.mpr ⟨j, Finset.mem_range.mpr hj, hs⟩) hq
    · exact h
  exact lt_of_lt_of_le (h ▸ hlt) ((isPick_pick (state f k)).1 q)

/-- No position is picked twice. -/
theorem sel_ne {j k : ℕ} (hjk : j < k) (hk : k < K) : sel f j ≠ sel f k := by
  intro e
  rcases state_apply f k (sel f k) with ⟨-, h⟩ | ⟨hn, -⟩
  · exact absurd h (bot_lt_state_sel hf hk).ne'
  · exact hn j hjk e

/-- The maximum of round `k` is the row's own entry at the position picked. -/
theorem state_sel {k : ℕ} (hk : k < K) : state f k (sel f k) = f (sel f k) := by
  rcases state_apply f k (sel f k) with ⟨-, h⟩ | ⟨-, h⟩
  · exact absurd h (bot_lt_state_sel hf hk).ne'
  · exact h

/-- The entry at a position picked is above `⊥`. -/
theorem bot_lt_sel {k : ℕ} (hk : k < K) : ⊥ < f (sel f k) := state_sel hf hk ▸ bot_lt_state_sel hf hk

/-- A position that no round before `k` picked is not ahead of the one that round `k` picks. -/
theorem le_sel {k : ℕ} (hk : k < K) {q : Fin n} (hq : ∀ j < k, sel f j ≠ q) :
    f q ≤ f (sel f k) ∧ (f q = f (sel f k) → sel f k ≤ q) := by
  have h : state f k q = f q := by
    rcases state_apply f k q with ⟨⟨j, hj, hs⟩, -⟩ | ⟨-, h⟩
    · exact absurd hs (hq j hj)
    · exact h
  have hp := isPick_pick (state f k)
  have e := state_sel hf hk
  exact ⟨by rw [← h, ← e]; exact hp.1 q, fun he => hp.2 q (by rw [h, he, ← e]; rfl)⟩

end Round

/-! ## The rounds are the stable sort -/

/-- "Greater first": the comparison a top-k sorts by. -/
def greater {n : ℕ} (f : Fin n → EReal) (p q : Fin n) : Bool := decide (f q < f p)

/-- "Greater first, then the lower position": a strict total order. -/
def ahead {n : ℕ} (f : Fin n → EReal) (p q : Fin n) : Bool :=
  decide (f q < f p) || (decide (f p = f q) && decide (p < q))

/-- It is one. -/
theorem strictTotal_ahead {n : ℕ} (f : Fin n → EReal) : StrictTotalBefore (ahead f) :=
  StrictTotalBefore.of_key_then_position (fun a b : EReal => decide (b < a)) f
    (fun a => by simp) (fun a b c hab hbc => by
      simp only [decide_eq_true_eq] at hab hbc ⊢; exact lt_trans hbc hab)
    (fun a b => by
      simp only [decide_eq_true_eq]
      rcases lt_trichotomy a b with h | h | h
      · exact .inr (.inr h)
      · exact .inr (.inl h)
      · exact .inl h)

/-- Inserting into a list of later positions, the two comparisons agree. -/
theorem insertBefore_greater {n : ℕ} (f : Fin n → EReal) (a : Fin n) (l : List (Fin n)) (h : ∀ b ∈ l, a < b) :
    insertBefore (greater f) a l = insertBefore (ahead f) a l := by
  induction l with
  | nil => rfl
  | cons b l ih =>
    have e : ahead f b a = greater f b a := by
      have : ¬ b < a := not_lt_of_gt (h b List.mem_cons_self)
      simp [ahead, greater, this]
    unfold insertBefore
    rw [e, ih fun c hc => h c (List.mem_cons_of_mem _ hc)]

/-- Sorting a list of increasing positions, the two comparisons agree: the sort is stable. -/
theorem stableSort_greater {n : ℕ} (f : Fin n → EReal) (l : List (Fin n)) (h : l.Pairwise (· < ·)) :
    stableSort (greater f) l = stableSort (ahead f) l := by
  induction l with
  | nil => rfl
  | cons a l ih =>
    have h' := List.pairwise_cons.mp h
    unfold stableSort
    rw [ih h'.2]
    exact insertBefore_greater f a _ fun b hb => h'.1 b ((perm_stableSort (ahead f) l).mem_iff.mp hb)

/-- A stable sort by "greater first" is the sort by this order. -/
theorem sortedFrom_greater {n : ℕ} (f : Fin n → EReal) : sortedFrom (greater f) = sortedFrom (ahead f) := by
  have e : sortPositions n (greater f) = sortPositions n (ahead f) :=
    stableSort_greater f _ (List.pairwise_lt_finRange n)
  funext k
  unfold sortedFrom
  simp only [List.get_eq_getElem, e]
  rfl

/-- THE ROUNDS ARE THE STABLE SORT: position `k` of the row's stable sort, greater entries first, comes from the
    position that round `k` picks. -/
theorem sortedFrom_eq_sel {n : ℕ} [NeZero n] {f : Fin n → EReal} {K : ℕ} (hf : Enough f K) (hK : K ≤ n) (k : Fin K) :
    sortedFrom (greater f) (k.castLE hK) = sel f k.val := by
  rw [sortedFrom_greater]
  refine (strictTotal_ahead f).sortedFrom_eq_of_prefix hK (fun i : Fin K => sel f i.val) ?_ ?_ ?_ k
  · intro i j hij
    rcases lt_trichotomy i.val j.val with h | h | h
    · exact absurd hij (sel_ne hf h j.isLt)
    · exact Fin.ext h
    · exact absurd hij.symm (sel_ne hf h i.isLt)
  · intro i j hij
    have h := le_sel hf i.isLt (q := sel f j.val)
      fun a ha => sel_ne hf (lt_trans ha hij) j.isLt
    have hne := sel_ne hf hij j.isLt
    unfold ahead
    rw [Bool.or_eq_false_iff, Bool.and_eq_false_imp]
    refine ⟨decide_eq_false (not_lt_of_ge h.1), fun e => decide_eq_false ?_⟩
    exact not_lt_of_ge (h.2 (of_decide_eq_true e))
  · intro i p hp
    have h := le_sel hf i.isLt (q := p) fun a ha => hp ⟨a, lt_trans ha i.isLt⟩
    unfold ahead
    rw [Bool.or_eq_false_iff, Bool.and_eq_false_imp]
    refine ⟨decide_eq_false (not_lt_of_ge h.1), fun e => decide_eq_false ?_⟩
    exact not_lt_of_ge (h.2 (of_decide_eq_true e))

end Cert.Rounds

end
-- ==== Proof.Spec.lean ====
/-
  What is computed, on plain functions over the extended reals: each node's series of 128 values is normalised (its mean
  taken off, divided by its standard deviation plus a small constant), two nodes' correlation is the sum of the products
  of their normalised series over 128, a node's row of correlations has its own entry masked by `⊥`, and the five
  greatest entries of the row are the node's neighbours.

  A normalised value is ALWAYS real (`norm_real`), whatever the series holds: if a deviation is infinite the standard
  deviation is `⊤` and the quotient `0`.  So every correlation is above `⊥` (`bot_lt_corr`), and a masked row, having
  4095 entries above `⊥`, has enough of them for five rounds (`enough`).
-/
module

public import proofs.«01_k».proof.Proof.Rounds
public import Idealize.ShloMosaic.PureOps.Ideal
public import Idealize.ShloMosaic.PureOps.Ideal.Laws

@[expose] public section

noncomputable section

namespace Cert.Spec

open Idealize.ShloMosaic Cert.Rounds

/-! ## The program's constants -/

/-- The constant 128. -/
theorem bits_128 : Ideal.ofBits .f32 0x43000000#32 = ((128 : ℝ) : EReal) := by
  simp [Ideal.ofBits, Ideal.ieee, -EReal.coe_mul]; norm_num

/-- The constant 127. -/
theorem bits_127 : Ideal.ofBits .f32 0x42FE0000#32 = ((127 : ℝ) : EReal) := by
  simp [Ideal.ofBits, Ideal.ieee, -EReal.coe_mul]; norm_num

/-- The constant 4096. -/
theorem bits_4096 : Ideal.ofBits .f32 0x45800000#32 = ((4096 : ℝ) : EReal) := by
  simp [Ideal.ofBits, Ideal.ieee, -EReal.coe_mul]; norm_num

/-- The constant 1/128. -/
theorem bits_128th : Ideal.ofBits .f32 0x3C000000#32 = ((1 / 128 : ℝ) : EReal) := by
  simp [Ideal.ofBits, Ideal.ieee, -EReal.coe_mul]; norm_num

/-- Minus infinity. -/
theorem bits_bot : Ideal.ofBits .f32 0xFF800000#32 = ⊥ := by
  simp [Ideal.ofBits, Ideal.ieee]

/-- Plus infinity. -/
theorem bits_top : Ideal.ofBits .f32 0x7F800000#32 = ⊤ := by
  simp [Ideal.ofBits, Ideal.ieee]

/-- The constant added to the standard deviation. -/
def eps : EReal := Ideal.ofBits .f32 0x322BCC77#32

/-- It is a positive real number. -/
theorem eps_real : ∃ e : ℝ, 0 < e ∧ eps = (e : EReal) := by
  refine ⟨_, ?_, by unfold eps; simp [Ideal.ofBits, Ideal.ieee, -EReal.coe_mul]; rfl⟩
  norm_num

/-- A number below 4096 as a word is that number. -/
theorem toInt_small {n : ℕ} (h : n < 4096) : (BitVec.ofNat 32 n).toInt = n := by
  rw [BitVec.toInt_eq_toNat_of_lt (by rw [BitVec.toNat_ofNat]; omega), BitVec.toNat_ofNat]
  omega

/-! ## The normalised series -/

/-- The mean of a series. -/
def mean (x : Fin 128 → EReal) : EReal := Ideal.div (∑ s, x s) ((128 : ℝ) : EReal)

/-- A value's deviation from the mean. -/
def dev (x : Fin 128 → EReal) (s : Fin 128) : EReal := x s - mean x

/-- The standard deviation of a series, over 127. -/
def std (x : Fin 128 → EReal) : EReal := Ideal.sqrt (Ideal.div (∑ s, dev x s * dev x s) ((127 : ℝ) : EReal))

/-- The normalised series. -/
def norm (x : Fin 128 → EReal) (s : Fin 128) : EReal := Ideal.div (dev x s) (std x + eps)

/-- A square is not negative. -/
theorem mul_self_nonneg (a : EReal) : 0 ≤ a * a := by
  induction a using EReal.rec with
  | bot => simp
  | coe r => exact_mod_cast _root_.mul_self_nonneg r
  | top => simp

/-- A sum of reals, read as an extended real. -/
theorem coe_sum {ι : Type} (t : Finset ι) (g : ι → ℝ) : ((∑ i ∈ t, g i : ℝ) : EReal) = ∑ i ∈ t, (g i : EReal) := by
  classical
  induction t using Finset.induction_on with
  | empty => simp
  | insert a t ha ih => rw [Finset.sum_insert ha, Finset.sum_insert ha, EReal.coe_add, ih]

/-- A sum of reals is real. -/
theorem sum_real {ι : Type} (t : Finset ι) (f : ι → EReal) (h : ∀ i, ∃ r : ℝ, f i = r) : ∃ r : ℝ, ∑ i ∈ t, f i = r := by
  choose g hg using h
  refine ⟨∑ i ∈ t, g i, ?_⟩
  rw [coe_sum]
  exact Finset.sum_congr rfl fun i _ => hg i

/-- The sum of the squared deviations is infinite if one of them is. -/
theorem sum_sq_eq_top (x : Fin 128 → EReal) (s₀ : Fin 128) (h : dev x s₀ * dev x s₀ = ⊤) :
    ∑ s, dev x s * dev x s = ⊤ := by
  refine top_le_iff.mp ?_
  rw [← h]
  exact Finset.single_le_sum (f := fun s => dev x s * dev x s) (fun s _ => mul_self_nonneg (dev x s)) (Finset.mem_univ s₀)

/-- A normalised value is real, whatever the series holds. -/
theorem norm_real (x : Fin 128 → EReal) (s : Fin 128) : ∃ r : ℝ, norm x s = r := by
  obtain ⟨e, he, hee⟩ := eps_real
  by_cases hall : ∀ s, ∃ r : ℝ, dev x s = r
  · choose g hg using hall
    have hs : ∑ s, dev x s * dev x s = ((∑ s, g s * g s : ℝ) : EReal) := by
      rw [coe_sum]
      exact Finset.sum_congr rfl fun i _ => by rw [hg i, EReal.coe_mul]
    have h0 : 0 ≤ (∑ s, g s * g s) * (1 / 127 : ℝ) :=
      mul_nonneg (Finset.sum_nonneg fun i _ => _root_.mul_self_nonneg (g i)) (by norm_num)
    have hstd : std x = ((Real.sqrt ((∑ s, g s * g s) * (1 / 127 : ℝ)) : ℝ) : EReal) := by
      unfold std
      rw [hs, Ideal.div_coe (by norm_num : (127 : ℝ) ≠ 0), ← EReal.coe_mul, Ideal.sqrt_coe, if_neg (not_lt.mpr h0)]
    have hpos : Real.sqrt ((∑ s, g s * g s) * (1 / 127 : ℝ)) + e ≠ 0 :=
      (add_pos_of_nonneg_of_pos (Real.sqrt_nonneg _) he).ne'
    refine ⟨g s * (1 / (Real.sqrt ((∑ s, g s * g s) * (1 / 127 : ℝ)) + e)), ?_⟩
    unfold norm
    rw [hstd, hee, hg s, ← EReal.coe_add, Ideal.div_coe hpos, ← EReal.coe_mul]
  · obtain ⟨s₀, hs₀⟩ := not_forall.mp hall
    have hsq : dev x s₀ * dev x s₀ = ⊤ := by
      generalize dev x s₀ = a at hs₀
      induction a using EReal.rec with
      | bot => simp
      | coe r => exact absurd ⟨r, rfl⟩ hs₀
      | top => simp
    have hstd : std x = ⊤ := by
      unfold std
      rw [sum_sq_eq_top x s₀ hsq, Ideal.div_coe (by norm_num : (127 : ℝ) ≠ 0),
        EReal.top_mul_coe_of_pos (by norm_num), Ideal.sqrt_top]
    refine ⟨0, ?_⟩
    unfold norm
    rw [hstd, hee, EReal.top_add_coe]
    unfold Ideal.div
    rw [if_neg (by simp), EReal.inv_top, mul_zero]
    rfl

/-! ## Correlations and neighbours -/

/-- The correlation of nodes `u` and `v`. -/
def corr (X : Fin 4096 → Fin 128 → EReal) (u v : Fin 4096) : EReal :=
  Ideal.div (∑ s, norm (X u) s * norm (X v) s) ((128 : ℝ) : EReal)

/-- A correlation is above `⊥`. -/
theorem bot_lt_corr (X : Fin 4096 → Fin 128 → EReal) (u v : Fin 4096) : ⊥ < corr X u v := by
  obtain ⟨r, hr⟩ := sum_real Finset.univ (fun s => norm (X u) s * norm (X v) s) fun s => by
    obtain ⟨a, ha⟩ := norm_real (X u) s
    obtain ⟨b, hb⟩ := norm_real (X v) s
    exact ⟨a * b, by rw [ha, hb, EReal.coe_mul]⟩
  unfold corr
  rw [hr, Ideal.div_coe (by norm_num : (128 : ℝ) ≠ 0), ← EReal.coe_mul]
  exact EReal.bot_lt_coe _

/-- The row of node `u`'s correlations, its own entry masked. -/
def masked (X : Fin 4096 → Fin 128 → EReal) (u v : Fin 4096) : EReal := if v = u then ⊥ else corr X u v

/-- A masked row has enough entries above `⊥` for five rounds. -/
theorem enough (X : Fin 4096 → Fin 128 → EReal) (u : Fin 4096) : Enough (masked X u) 5 := by
  intro t ht
  have hc : (insert u t).card < (Finset.univ : Finset (Fin 4096)).card := by
    refine lt_of_le_of_lt (Finset.card_insert_le u t) ?_
    rw [Finset.card_univ, Fintype.card_fin]
    omega
  obtain ⟨q, -, hq⟩ := Finset.exists_mem_notMem_of_card_lt_card hc
  refine ⟨q, fun h => hq (Finset.mem_insert_of_mem h), ?_⟩
  unfold masked
  rw [if_neg fun h : q = u => hq (by rw [h]; exact Finset.mem_insert_self u t)]
  exact bot_lt_corr X u q

/-- Node `u`'s neighbour `k`. -/
def nbr (X : Fin 4096 → Fin 128 → EReal) (u : Fin 4096) (k : ℕ) : Fin 4096 := sel (masked X u) k

/-- Its correlation with that neighbour. -/
def weight (X : Fin 4096 → Fin 128 → EReal) (u : Fin 4096) (k : ℕ) : EReal := corr X u (nbr X u k)

/-- In each of the five rounds the maximum is the correlation with the neighbour picked. -/
theorem state_nbr (X : Fin 4096 → Fin 128 → EReal) (u : Fin 4096) {k : ℕ} (hk : k < 5) :
    state (masked X u) k (nbr X u k) = weight X u k := by
  have h := state_sel (enough X u) hk
  have hb := bot_lt_sel (enough X u) hk
  refine h.trans ?_
  unfold weight
  change ⊥ < masked X u (nbr X u k) at hb
  change masked X u (nbr X u k) = _
  unfold masked at hb ⊢
  by_cases e : nbr X u k = u
  · rw [if_pos e] at hb; exact absurd hb (lt_irrefl _)
  · rw [if_neg e]

end Cert.Spec

end
-- ==== Proof.Arrays.lean ====
/-
  The two arrays both programs compute from the input, before the final change of layout: for each batch entry `b`, node
  `u` and `k < 5` the number of the node's `k`-th neighbour (`idxArr`) and its correlation with it (`weightArr`).
-/
module

public import proofs.«01_k».proof.Proof.Spec
public import Idealize.ShloMosaic.Lib.ValueIdx

@[expose] public section

noncomputable section

namespace Cert.Arrays

open Idealize.ShloMosaic Idealize.ShloMosaic.ValueIdx Cert.Spec

/-- The series of the nodes of batch entry `b`. -/
def series (A : (⟨3, ![4, 4096, 128]⟩ : Shape).Idx → EReal) (b : Fin 4) (u : Fin 4096) (s : Fin 128) : EReal :=
  A (ix3 b u s)

/-- The neighbours' numbers. -/
def idxArr (A : (⟨3, ![4, 4096, 128]⟩ : Shape).Idx → EReal) : (⟨3, ![4, 4096, 5]⟩ : Shape).Idx → BitVec 32 :=
  fun i => BitVec.ofNat 32 (nbr (series A (i 0)) (i 1) (i 2).val).val

/-- The correlations with them. -/
def weightArr (A : (⟨3, ![4, 4096, 128]⟩ : Shape).Idx → EReal) : (⟨3, ![4, 4096, 5]⟩ : Shape).Idx → EReal :=
  fun i => weight (series A (i 0)) (i 1) (i 2).val

end Cert.Arrays

end
-- ==== Proof.BlockRounds.lean ====
/-
  One round of the kernel on a [1024, 4096] block of rows, read on one row: the row's maximum is its entry at the
  position picked (`rowMax`); the least column number among the columns equal to the maximum, kept as a float, is that
  position (`rowArg`); and the block with the column of that number overwritten is the row with that position knocked
  out (`rowKnock`).
-/
module

public import proofs.«01_k».proof.Proof.Spec
public import proofs.«01_k».proof.Proof.Gen.KernelIdeal.Skeleton
public import Idealize.ShloMosaic.Lib.Pipeline.Value
public import Idealize.ShloMosaic.Lib.ValueIdx
public import Idealize.ShloMosaic.Lib.ValueLayoutCasts

@[expose] public section

set_option maxRecDepth 16384

noncomputable section

namespace Cert.KernelIdeal.Block

open Idealize.ShloMosaic Idealize.ShloMosaic.ValueIdx Cert.KernelIdeal Cert.KernelIdeal.Gen Cert.Rounds Cert.Spec

/-- Row `r` with column `q` put back is (r, q). -/
theorem lift_row {m n : ℕ} (h : (⟨2, ![m, n]⟩ : Shape).Reduces [1] (⟨1, ![m]⟩ : Shape)) (r : Fin m)
    (q : Fin ((⟨2, ![m, n]⟩ : Shape).size 1)) : h.lift (ix1 r) q = ix2 r (⟨q.val, q.isLt⟩ : Fin n) := by
  funext c; apply Fin.ext
  fin_cases c <;> rfl

/-- A column broadcast along the rows reads its row's entry. -/
theorem bcast_col {α : Type} {m n : ℕ} (x : (⟨2, ![m, 1]⟩ : Shape).Idx → α) (h : (⟨2, ![m, 1]⟩ : Shape).Broadcasts ⟨2, ![m, n]⟩)
    (hm : m ≠ 1) (r : Fin m) (q : Fin n) : broadcastTo ⟨2, ![m, n]⟩ x h (ix2 r q) = x (ix2 r 0) :=
  broadcastTo_apply x h _ _ fun a => match a with
    | ⟨0, _⟩ => (if_neg hm).symm
    | ⟨1, _⟩ => (if_pos rfl).symm

/-- A column's number, as the real it is. -/
def colNum (q : Fin 4096) : EReal := ((q.val : ℝ) : EReal)

/-- Column numbers kept as floats are ordered as the columns are. -/
theorem colNum_le {p q : Fin 4096} : colNum p ≤ colNum q ↔ p ≤ q := by
  unfold colNum
  rw [EReal.coe_le_coe_iff, Nat.cast_le]
  rfl

/-- Different columns have different numbers. -/
theorem colNum_inj {p q : Fin 4096} : colNum p = colNum q ↔ p = q := by
  unfold colNum
  rw [EReal.coe_eq_coe_iff, Nat.cast_inj, Fin.ext_iff]

/-- The column numbers the kernel makes. -/
theorem pay3_apply (r : Fin 1024) (q : Fin 4096) : (k0_pay3 (F := Ideal)) (ix2 r q) = colNum q := by
  unfold k0_pay3
  rw [sitofp_apply, iota_single_apply]
  show (((BitVec.ofNat 32 q.val).toInt : ℝ) : EReal) = _
  rw [toInt_small q.isLt]
  unfold colNum
  norm_cast

/-- The two float comparisons for equality, as conditions. -/
theorem select_oeq {α : Type} (x y : EReal) (a b : α) :
    Scalar.select (FloatOps.cmpf (F := Ideal) (φ := .f32) .oeq x y) a b = if x = y then a else b := by
  show Scalar.select (BitVec.ofBool (decide (x = y))) a b = _
  by_cases h : x = y
  · rw [if_pos h, decide_eq_true h]; rfl
  · rw [if_neg h, decide_eq_false h]; rfl

/-- A row's maximum is its entry at the position picked. -/
theorem fold_max_eq (w : Fin 4096 → EReal) : (Finset.univ : Finset (Fin 4096)).fold max ⊥ w = w (pick w) := by
  refine le_antisymm ?_ ?_
  · rw [Finset.fold_max_le]
    exact ⟨bot_le, fun q _ => (isPick_pick w).1 q⟩
  · rw [Finset.le_fold_max]
    exact .inr ⟨pick w, Finset.mem_univ _, le_refl _⟩

/-- The least number among the columns equal to the maximum is that of the position picked. -/
theorem fold_min_eq (w : Fin 4096 → EReal) :
    (Finset.univ : Finset (Fin 4096)).fold min ⊤
      (fun q => if w q = w (pick w) then colNum q else ((4096 : ℝ) : EReal)) = colNum (pick w) := by
  refine le_antisymm ?_ ?_
  · rw [Finset.fold_min_le]
    exact .inr ⟨pick w, Finset.mem_univ _, by rw [if_pos rfl]⟩
  · rw [Finset.le_fold_min]
    refine ⟨le_top, fun q _ => ?_⟩
    by_cases h : w q = w (pick w)
    · rw [if_pos h]; exact colNum_le.mpr ((isPick_pick w).2 q h)
    · rw [if_neg h]
      unfold colNum
      rw [EReal.coe_le_coe_iff]
      exact_mod_cast (pick w).isLt.le

section Round

variable (v : FVec Ideal S1024x4096 .f32) (w : Fin 4096 → EReal) (r : Fin 1024) (h : ∀ q, v (ix2 r q) = w q)
include h

/-- The row's maximum is its entry at the position picked. -/
theorem rowMax (hr : S1024x4096.Reduces [1] S1024) (hφ : FKind.Formats .f32)
    (ha : (0xFF800000#32 : BitVec 32) = FKind.maximumf.neutral .f32 hφ) :
    multiReduction .maximumf [1] S1024 v 0xFF800000#32 hr hφ ha (ix1 r) = w (pick w) := by
  rw [Ideal.multiReduction_maximumf_single]
  have e : (v ∘ hr.lift (ix1 r)) = w := funext fun q => (congrArg v (lift_row hr r q)).trans (h q)
  refine Eq.trans ?_ (fold_max_eq w)
  rw [← bits_bot]
  exact congrArg (fun f => Finset.fold max (Ideal.ofBits .f32 0xFF800000#32) f (Finset.univ : Finset (Fin 4096))) e

/-- The least column number among the columns that hold the maximum is the position picked. -/
theorem rowArg (mx : FVec Ideal S1024x1 .f32) (hm : mx (ix2 r 0) = w (pick w)) (hb : S1024x1.Broadcasts S1024x4096)
    (hr : S1024x4096.Reduces [1] S1024) (hφ : FKind.Formats .f32)
    (ha : (0x7F800000#32 : BitVec 32) = FKind.minimumf.neutral .f32 hφ) :
    multiReduction .minimumf [1] S1024
        (select (cmpf .oeq v (broadcastTo S1024x4096 mx hb)) (k0_pay3 (F := Ideal))
          (broadcast S1024x4096 (Scalar.ofBits .f32 0x45800000#32 : Ideal .f32)))
        0x7F800000#32 hr hφ ha (ix1 r) = colNum (pick w) := by
  rw [multiReduction_minimumf_eq_fold]
  refine (hr.fold_filter_drop_single _ _ _ (ix1 r)).trans ?_
  refine Eq.trans ?_ (fold_min_eq w)
  rw [← bits_top]
  refine congrArg (fun f => Finset.fold min (Ideal.ofBits .f32 0x7F800000#32) f (Finset.univ : Finset (Fin 4096)))
    (funext fun q => ?_)
  show select _ _ _ (hr.lift (ix1 r) q) = _
  rw [lift_row hr r q, select_apply, cmpf_apply, select_oeq, bcast_col mx hb (by decide), hm]
  exact if_congr (iff_of_eq (congrArg (· = w (pick w)) (h q))) (pay3_apply r q) bits_4096

/-- With the column of the picked position's number overwritten, the row has that position knocked out. -/
theorem rowKnock (p : Fin 4096) (ix : FVec Ideal S1024x1 .f32) (hp : ix (ix2 r 0) = colNum p)
    (hb : S1024x1.Broadcasts S1024x4096) (q : Fin 4096) :
    select (cmpf .oeq (k0_pay3 (F := Ideal)) (broadcastTo S1024x4096 ix hb))
        (broadcast S1024x4096 (Scalar.ofBits .f32 0xFF800000#32 : Ideal .f32)) v (ix2 r q) = knock w p q := by
  rw [select_apply, cmpf_apply, select_oeq, bcast_col ix hb (by decide), hp, pay3_apply, broadcast_apply, h]
  exact if_congr colNum_inj bits_bot rfl

end Round

end Cert.KernelIdeal.Block

end
-- ==== Proof.Block.lean ====
/-
  What one run of the kernel's body computes, from the block `x` of all 4096 nodes' series of one batch entry and the
  number of the row block: the normalised series (`pay2_apply`), the masked rows of correlations (`pay4_apply`), and
  the five rounds on them, so that the two blocks stored are the neighbours' numbers (`idx_apply`) and the correlations
  with them (`weight_apply`) of the rows of this row block.
-/
module

public import proofs.«01_k».proof.Proof.BlockRounds

@[expose] public section

set_option maxRecDepth 16384

noncomputable section

namespace Cert.KernelIdeal.Block

open Idealize.ShloMosaic Idealize.ShloMosaic.ValueIdx Cert.KernelIdeal Cert.KernelIdeal.Gen Cert.Rounds Cert.Spec

set_option backward.isDefEq.respectTransparency false

/-! ## The normalised series -/

/-- The nodes' series in a block. -/
def series (x : Vec Ideal S1x4096x128 .f32) (u : Fin 4096) (s : Fin 128) : EReal := x (ix3 0 u s)

/-- A row's sum, kept as a column. -/
theorem rowSum (v : FVec Ideal S4096x128 .f32) (hr : S4096x128.Reduces [1] S4096) (hφ : FKind.Formats .f32)
    (ha : (0x00000000#32 : BitVec 32) = FKind.add.neutral .f32 hφ) (hc : S4096.ShapeCasts S4096x1) (u : Fin 4096) (z : Fin 1) :
    shapeCast S4096x1 (multiReduction .add [1] S4096 v 0x00000000#32 hr hφ ha) hc (ix2 u z) = ∑ s : Fin 128, v (ix2 u s) := by
  rw [shapeCast_a_a1_apply, Ideal.multiReduction_add_single]
  exact Finset.sum_congr rfl fun s _ => congrArg v (lift_row hr u s)

/-- The block stored in the scratch memory holds the normalised series. -/
theorem pay2_apply (x : Vec Ideal S1x4096x128 .f32) (u : Fin 4096) (s : Fin 128) :
    k0_pay2 x (ix2 u s) = Spec.norm (series x u) s := by
  have hd : ∀ s : Fin 128, subf (shapeCast S4096x128 x shapeCasts_S1x4096x128_S4096x128)
      (broadcastTo S4096x128 (divf (shapeCast S4096x1 (multiReduction .add [1] S4096
        (shapeCast S4096x128 x shapeCasts_S1x4096x128_S4096x128 : FVec Ideal S4096x128 .f32) 0x00000000#32
          reduces_S4096x128_S4096 (.inl rfl) rfl) shapeCasts_S4096_S4096x1)
        (broadcast S4096x1 (Scalar.ofBits .f32 0x43000000#32 : Ideal .f32))) broadcasts_S4096x1_S4096x128) (ix2 u s)
      = dev (series x u) s := by
    intro s
    rw [subf_apply, shapeCast_1ab_ab_apply, bcast_col _ _ (by decide), divf_apply, rowSum, broadcast_apply]
    unfold dev mean
    refine congrArg₂ (· - ·) rfl (congrArg₂ Ideal.div (Finset.sum_congr rfl fun s _ => ?_) bits_128)
    rw [shapeCast_1ab_ab_apply]
    rfl
  unfold k0_pay2
  rw [shapeCast_self, divf_apply, hd]
  unfold Spec.norm
  refine congrArg (Ideal.div _) ?_
  rw [bcast_col _ _ (by decide), addf_apply]
  refine congrArg₂ (· + ·) (congrArg Ideal.sqrt ?_) rfl
  rw [divf_apply, rowSum, broadcast_apply]
  refine congrArg₂ Ideal.div (Finset.sum_congr rfl fun s _ => ?_) bits_127
  rw [mulf_apply, hd]

/-! ## The masked rows -/

/-- The dimension numbers of the product of the rows with all series. -/
abbrev D := dot_S1024x128_S4096x128_S1024x4096_1_1_0_0_n_n

/-- The left operand's row is the result's row. -/
theorem lhs_0 (j : S1024x4096.Idx) (k : D.contr.Idx) : (D.lhsIdx j k 0 : ℕ) = j 0 := by
  simp [DotDims.lhsIdx, D, dot_S1024x128_S4096x128_S1024x4096_1_1_0_0_n_n]; rfl
/-- The left operand's column is the place contracted. -/
theorem lhs_1 (j : S1024x4096.Idx) (k : D.contr.Idx) : (D.lhsIdx j k 1 : ℕ) = k ⟨0, by decide⟩ := by
  simp [DotDims.lhsIdx, D, dot_S1024x128_S4096x128_S1024x4096_1_1_0_0_n_n]; rfl
/-- The right operand's row is the result's column. -/
theorem rhs_0 (j : S1024x4096.Idx) (k : D.contr.Idx) : (D.rhsIdx j k 0 : ℕ) = j 1 := by
  simp [DotDims.rhsIdx, D, dot_S1024x128_S4096x128_S1024x4096_1_1_0_0_n_n]; rfl
/-- The right operand's column is the place contracted. -/
theorem rhs_1 (j : S1024x4096.Idx) (k : D.contr.Idx) : (D.rhsIdx j k 1 : ℕ) = k ⟨0, by decide⟩ := by
  simp [DotDims.rhsIdx, D, dot_S1024x128_S4096x128_S1024x4096_1_1_0_0_n_n]; rfl

/-- The product of a block of rows with all the rows, transposed: sums over the 128 values. -/
theorem product_apply (a : FVec Ideal S1024x128 .f32) (b : FVec Ideal S4096x128 .f32) (r : Fin 1024) (q : Fin 4096) :
    matmul D none a b (constant S1024x4096 .f32 0x00000000#32) (ix2 r q) = ∑ s : Fin 128, a (ix2 r s) * b (ix2 q s) := by
  refine (Ideal.matmul_constant_zero_apply D none a b (ix2 r q)).trans ?_
  rw [← Equiv.sum_comp (contrEquiv1 D 128 (by decide) (by decide)).symm]
  refine Finset.sum_congr rfl fun s _ => congrArg₂ (· * ·) (congrArg a ?_) (congrArg b ?_)
  · funext c; apply Fin.ext
    match c with
    | ⟨0, _⟩ => exact lhs_0 _ _
    | ⟨1, _⟩ => exact (lhs_1 _ _).trans (contrEquiv1_symm_val D 128 (by decide) (by decide) s)
  · funext c; apply Fin.ext
    match c with
    | ⟨0, _⟩ => exact rhs_0 _ _
    | ⟨1, _⟩ => exact (rhs_1 _ _).trans (contrEquiv1_symm_val D 128 (by decide) (by decide) s)

/-- The node at row `r` of row block `j`. -/
def node (j : Fin 4) (r : Fin 1024) : Fin 4096 := ⟨j.val * 1024 + r.val, by omega⟩

/-- The row block's number times 1024 plus the row, in the kernel's floats: the node's number. -/
theorem rowNum (j : Fin 4) (r : Fin 1024) :
    (Scalar.sitofp .f32 (Scalar.muli (BitVec.ofNat 32 j.val) 1024#32) : Ideal .f32)
      + (sitofp .f32 (iota .tc S1024x4096 32 [0] iota_S1024x4096_d0_w32) : FVec Ideal S1024x4096 .f32) (ix2 r (0 : Fin 4096))
      = colNum (node j r) := by
  rw [sitofp_apply, iota_single_apply]
  have e : Scalar.muli (BitVec.ofNat 32 j.val) 1024#32 = BitVec.ofNat 32 (j.val * 1024) := by
    show BitVec.ofNat 32 j.val * BitVec.ofNat 32 1024 = _
    rw [← BitVec.ofNat_mul]
  rw [e]
  show (((BitVec.ofNat 32 (j.val * 1024)).toInt : ℝ) : EReal) + (((BitVec.ofNat 32 r.val).toInt : ℝ) : EReal) = _
  rw [toInt_small (by omega), toInt_small (by omega), ← EReal.coe_add]
  unfold colNum node
  push_cast
  rfl

section Rows

variable (X : Fin 4096 → Fin 128 → EReal) (i : grid0.Coords) (j : Fin 4) (hj : (i 1).val = j.val)
  (v3 : Vec Ideal S4096x128 .f32) (h3 : ∀ u s, v3 (ix2 u s) = Spec.norm (X u) s)
  (v6 : Vec Ideal S1024x128 .f32) (h6 : ∀ r s, v6 (ix2 r s) = Spec.norm (X (node j r)) s)
include hj h3 h6

/-- The block the rounds work on: the masked rows of this row block's nodes. -/
theorem pay4_apply (r : Fin 1024) (q : Fin 4096) : k0_pay4 i v3 v6 (ix2 r q) = masked X (node j r) q := by
  unfold k0_pay4
  dsimp only
  rw [select_apply, cmpf_apply, select_oeq, pay3_apply, addf_apply, broadcast_apply, broadcast_apply, mulf_apply,
    broadcast_apply, product_apply, hj]
  unfold masked
  refine if_congr ?_ bits_bot ?_
  · rw [← colNum_inj, ← rowNum j r]
    rw [sitofp_apply, sitofp_apply, iota_single_apply, iota_single_apply]
  · unfold corr
    rw [Ideal.div_coe (by norm_num : (128 : ℝ) ≠ 0), ← bits_128th]
    refine congrArg₂ (· * ·) (Finset.sum_congr rfl fun s _ => ?_) rfl
    rw [h3, h6]

/-! ## The five rounds

Each of the kernel's columns and blocks on the way, at a row: the block before round `k` holds `state (masked X u) k`,
the maxima are the correlations with the neighbours, the least columns the neighbours' numbers. -/

/-- The first round's maximum is the row's entry at the first neighbour. -/
theorem pay5_apply (r : Fin 1024) : k0_pay5 i v3 v6 (ix2 r 0) = state (masked X (node j r)) 0 (nbr X (node j r) 0) := by
  unfold k0_pay5
  rw [shapeCast_a_a1_apply, rowMax _ _ r (pay4_apply X i j hj v3 h3 v6 h6 r)]
  rfl

/-- The first round's column number is the first neighbour's. -/
theorem pay6_apply (r : Fin 1024) : k0_pay6 i v3 v6 (ix2 r 0) = colNum (nbr X (node j r) 0) := by
  unfold k0_pay6
  rw [shapeCast_a_a1_apply]
  exact rowArg _ _ r (pay4_apply X i j hj v3 h3 v6 h6 r) _ (pay5_apply X i j hj v3 h3 v6 h6 r) _ _ _ _

/-- The rows after one round. -/
theorem pay7_apply (r : Fin 1024) (q : Fin 4096) : k0_pay7 i v3 v6 (ix2 r q) = state (masked X (node j r)) 1 q := by
  unfold k0_pay7
  exact rowKnock _ _ r (pay4_apply X i j hj v3 h3 v6 h6 r) _ _ (pay6_apply X i j hj v3 h3 v6 h6 r) _ q

/-- The second round's maximum is the row's entry at the second neighbour. -/
theorem pay8_apply (r : Fin 1024) : k0_pay8 i v3 v6 (ix2 r 0) = state (masked X (node j r)) 1 (nbr X (node j r) 1) := by
  unfold k0_pay8
  rw [shapeCast_a_a1_apply, rowMax _ _ r (pay7_apply X i j hj v3 h3 v6 h6 r)]
  rfl

/-- The second round's column number is the second neighbour's. -/
theorem pay10_apply (r : Fin 1024) : k0_pay10 (k0_pay9 i v3 v6) (ix2 r 0) = colNum (nbr X (node j r) 1) := by
  unfold k0_pay10 k0_pay9
  rw [shapeCast_a_a1_apply]
  exact rowArg _ _ r (pay7_apply X i j hj v3 h3 v6 h6 r) _ (pay8_apply X i j hj v3 h3 v6 h6 r) _ _ _ _

/-- The rows after two rounds. -/
theorem pay11_apply (r : Fin 1024) (q : Fin 4096) :
    k0_pay11 (k0_pay3 (F := Ideal)) (k0_pay7 i v3 v6) (k0_pay9 i v3 v6) (ix2 r q) = state (masked X (node j r)) 2 q := by
  unfold k0_pay11
  exact rowKnock _ _ r (pay7_apply X i j hj v3 h3 v6 h6 r) _ _ (pay10_apply X i j hj v3 h3 v6 h6 r) _ q

/-- The third round's maximum is the row's entry at the third neighbour. -/
theorem pay12_apply (r : Fin 1024) :
    k0_pay12 (k0_pay3 (F := Ideal)) (k0_pay7 i v3 v6) (k0_pay9 i v3 v6) (ix2 r 0)
      = state (masked X (node j r)) 2 (nbr X (node j r) 2) := by
  unfold k0_pay12
  rw [shapeCast_a_a1_apply, rowMax _ _ r (pay11_apply X i j hj v3 h3 v6 h6 r)]
  rfl

/-- The third round's column number is the third neighbour's. -/
theorem pay13_apply (r : Fin 1024) :
    k0_pay13 (k0_pay3 (F := Ideal)) (k0_pay7 i v3 v6) (k0_pay9 i v3 v6) (ix2 r 0) = colNum (nbr X (node j r) 2) := by
  unfold k0_pay13
  rw [shapeCast_a_a1_apply]
  exact rowArg _ _ r (pay11_apply X i j hj v3 h3 v6 h6 r) _ (pay12_apply X i j hj v3 h3 v6 h6 r) _ _ _ _

/-- The rows after three rounds. -/
theorem pay14_apply (r : Fin 1024) (q : Fin 4096) :
    k0_pay14 (k0_pay3 (F := Ideal)) (k0_pay7 i v3 v6) (k0_pay9 i v3 v6) (ix2 r q) = state (masked X (node j r)) 3 q := by
  unfold k0_pay14
  exact rowKnock _ _ r (pay11_apply X i j hj v3 h3 v6 h6 r) _ _ (pay13_apply X i j hj v3 h3 v6 h6 r) _ q

/-- The fourth round's maximum is the row's entry at the fourth neighbour. -/
theorem pay15_apply (r : Fin 1024) :
    k0_pay15 (k0_pay3 (F := Ideal)) (k0_pay7 i v3 v6) (k0_pay9 i v3 v6) (ix2 r 0)
      = state (masked X (node j r)) 3 (nbr X (node j r) 3) := by
  unfold k0_pay15
  rw [shapeCast_a_a1_apply, rowMax _ _ r (pay14_apply X i j hj v3 h3 v6 h6 r)]
  rfl

/-- The fourth round's column number is the fourth neighbour's. -/
theorem pay16_apply (r : Fin 1024) :
    k0_pay16 (k0_pay3 (F := Ideal)) (k0_pay7 i v3 v6) (k0_pay9 i v3 v6) (ix2 r 0) = colNum (nbr X (node j r) 3) := by
  unfold k0_pay16
  rw [shapeCast_a_a1_apply]
  exact rowArg _ _ r (pay14_apply X i j hj v3 h3 v6 h6 r) _ (pay15_apply X i j hj v3 h3 v6 h6 r) _ _ _ _

/-- The rows after four rounds. -/
theorem pay17_apply (r : Fin 1024) (q : Fin 4096) :
    k0_pay17 (k0_pay3 (F := Ideal)) (k0_pay7 i v3 v6) (k0_pay9 i v3 v6) (ix2 r q) = state (masked X (node j r)) 4 q := by
  unfold k0_pay17
  exact rowKnock _ _ r (pay14_apply X i j hj v3 h3 v6 h6 r) _ _ (pay16_apply X i j hj v3 h3 v6 h6 r) _ q

/-- The fifth round's maximum is the row's entry at the fifth neighbour. -/
theorem pay18_apply (r : Fin 1024) :
    k0_pay18 (k0_pay3 (F := Ideal)) (k0_pay7 i v3 v6) (k0_pay9 i v3 v6) (ix2 r 0)
      = state (masked X (node j r)) 4 (nbr X (node j r) 4) := by
  unfold k0_pay18
  rw [shapeCast_a_a1_apply, rowMax _ _ r (pay17_apply X i j hj v3 h3 v6 h6 r)]
  rfl

/-! ## The blocks stored -/

omit hj h3 h6 in
/-- Five columns side by side. -/
theorem fiveCols (x₀ x₁ x₂ x₃ x₄ : FVec Ideal S1024x1 .f32) (c : Fin 5 → EReal) (r : Fin 1024)
    (hc : Shape.Concatenates [S1024x1, S1024x1, S1024x1, S1024x1, S1024x1] S1024x5 1)
    (e₀ : x₀ (ix2 r 0) = c 0) (e₁ : x₁ (ix2 r 0) = c 1) (e₂ : x₂ (ix2 r 0) = c 2) (e₃ : x₃ (ix2 r 0) = c 3)
    (e₄ : x₄ (ix2 r 0) = c 4) (k : Fin 5) :
    concatenate S1024x5 1 [⟨S1024x1, x₀⟩, ⟨S1024x1, x₁⟩, ⟨S1024x1, x₂⟩, ⟨S1024x1, x₃⟩, ⟨S1024x1, x₄⟩] hc (ix2 r k) = c k := by
  have off : ∀ (k : Fin 5) (b : Fin S1024x1.rank), b.cast (rfl : S1024x1.rank = S1024x5.rank) ≠ 1 →
      ((ix2 r (0 : Fin 1) : S1024x1.Idx) b).val = ((ix2 r k : S1024x5.Idx) (b.cast rfl)).val := by
    intro k b hb
    match b with
    | ⟨0, _⟩ => rfl
    | ⟨1, _⟩ => exact absurd rfl hb
  let xs : List ((s : Shape) × (s.Idx → EReal)) := [⟨S1024x1, x₀⟩, ⟨S1024x1, x₁⟩, ⟨S1024x1, x₂⟩, ⟨S1024x1, x₃⟩, ⟨S1024x1, x₄⟩]
  match k with
  | ⟨0, _⟩ => exact (concatenate_apply_piece (t := S1024x5) 1 xs hc (ix2 r _) 0 (by decide : 0 < 5) S1024x1 x₀ rfl rfl 0 rfl (ix2 r 0) (off _) rfl).trans e₀
  | ⟨1, _⟩ => exact (concatenate_apply_piece (t := S1024x5) 1 xs hc (ix2 r _) 1 (by decide : 1 < 5) S1024x1 x₁ rfl rfl 1 rfl (ix2 r 0) (off _) rfl).trans e₁
  | ⟨2, _⟩ => exact (concatenate_apply_piece (t := S1024x5) 1 xs hc (ix2 r _) 2 (by decide : 2 < 5) S1024x1 x₂ rfl rfl 2 rfl (ix2 r 0) (off _) rfl).trans e₂
  | ⟨3, _⟩ => exact (concatenate_apply_piece (t := S1024x5) 1 xs hc (ix2 r _) 3 (by decide : 3 < 5) S1024x1 x₃ rfl rfl 3 rfl (ix2 r 0) (off _) rfl).trans e₃
  | ⟨4, _⟩ => exact (concatenate_apply_piece (t := S1024x5) 1 xs hc (ix2 r _) 4 (by decide : 4 < 5) S1024x1 x₄ rfl rfl 4 rfl (ix2 r 0) (off _) rfl).trans e₄

omit hj h3 h6 in
/-- A column's number as a float, made an integer. -/
theorem fptosi_colNum (p : Fin 4096) : FloatOps.fptosi (F := Ideal) (φ := .f32) 32 (colNum p) = BitVec.ofNat 32 p.val := by
  show BitVec.ofInt 32 (Ideal.toIntClamped _ _ ((((p.val : ℕ) : ℝ)) : EReal)) = _
  show BitVec.ofInt 32 (max _ (min _ (if (0 : ℝ) ≤ ((p.val : ℕ) : ℝ) then ⌊((p.val : ℕ) : ℝ)⌋ else _))) = _
  rw [if_pos (Nat.cast_nonneg _), Int.floor_natCast, min_eq_right (by norm_num <;> omega), max_eq_right (by norm_num <;> omega)]
  exact BitVec.ofInt_natCast _ _

/-- The first block stored holds the neighbours' numbers. -/
theorem idx_apply (r : Fin 1024) (k : Fin 5) :
    k0_pay19 (k0_pay3 (F := Ideal)) (k0_pay6 i v3 v6) (k0_pay7 i v3 v6) (k0_pay9 i v3 v6) (ix3 0 r k)
      = BitVec.ofNat 32 (nbr X (node j r) k.val).val := by
  unfold k0_pay19
  rw [shapeCast_ab_1ab_apply]
  refine Eq.trans ?_ (fptosi_colNum _)
  refine congrArg (FloatOps.fptosi 32) (fiveCols _ _ _ _ _ (fun k => colNum (nbr X (node j r) k.val)) r _ ?_ ?_ ?_ ?_ ?_ k)
  · exact pay6_apply X i j hj v3 h3 v6 h6 r
  · exact pay10_apply X i j hj v3 h3 v6 h6 r
  · exact pay13_apply X i j hj v3 h3 v6 h6 r
  · exact pay16_apply X i j hj v3 h3 v6 h6 r
  · rw [shapeCast_a_a1_apply]
    exact rowArg _ _ r (pay17_apply X i j hj v3 h3 v6 h6 r) _ (pay18_apply X i j hj v3 h3 v6 h6 r) _ _ _ _

/-- The second block stored holds the correlations with them. -/
theorem weight_apply (r : Fin 1024) (k : Fin 5) :
    k0_pay1 (k0_pay20 (k0_pay3 (F := Ideal)) (k0_pay5 i v3 v6) (k0_pay7 i v3 v6) (k0_pay8 i v3 v6) (k0_pay9 i v3 v6))
      (ix3 0 r k) = weight X (node j r) k.val := by
  unfold k0_pay1
  rw [shapeCast_ab_1ab_apply]
  unfold k0_pay20
  refine (fiveCols _ _ _ _ _ (fun k => state (masked X (node j r)) k.val (nbr X (node j r) k.val)) r _ ?_ ?_ ?_ ?_ ?_ k).trans
    (state_nbr X (node j r) k.isLt)
  · exact pay5_apply X i j hj v3 h3 v6 h6 r
  · exact pay8_apply X i j hj v3 h3 v6 h6 r
  · exact pay12_apply X i j hj v3 h3 v6 h6 r
  · exact pay15_apply X i j hj v3 h3 v6 h6 r
  · exact pay18_apply X i j hj v3 h3 v6 h6 r

end Rows

end Cert.KernelIdeal.Block

end
-- ==== Proof.Cases.lean ====
/-
  What one run of the kernel's body leaves in the two staged output blocks and in the scratch memory, in each of its two
  cases: at the first row block of a batch entry the scratch memory is filled with the normalised series first (case A),
  at the others it is read as it was left (case B).
-/
module

public import proofs.«01_k».proof.Proof.Gen.KernelIdeal.Frame
public import Idealize.ShloMosaic.Lib.Pipeline.Value
public import Idealize.ShloMosaic.Lib.Tactic
public import Idealize.ShloMosaic.Lib.ValueIdx

@[expose] public section

set_option maxRecDepth 16384

noncomputable section

namespace Cert.KernelIdeal.Cases

open Idealize.ShloMosaic Idealize.ShloMosaic.TcCoe Idealize.ShloMosaic.ValueIdx Cert.KernelIdeal Cert.KernelIdeal.Gen

variable {F : FTy → Type} [FloatOps F]

/-- Two zero offsets. -/
theorem hz : (![0, 0] : Fin 2 → Nat) = fun _ => 0 := funext fun a => by fin_cases a <;> rfl
/-- Three zero offsets. -/
theorem hz3 : (![0, 0, 0] : Fin 3 → Nat) = fun _ => 0 := funext fun a => by fin_cases a <;> rfl

/-- The rows of the scratch memory's contents that a row block takes. -/
def rows (i : grid0.Coords) (y : Vec F S4096x128 .f32) : Vec F S1024x128 .f32 :=
  View.ld y (Rect.unit (s := S4096x128) (k0_off1 i) S1024x128.size (k0_off1_inb i))

/-- The block of neighbours' numbers, from the scratch memory's contents. -/
def idxBlock (i : grid0.Coords) (y : Vec F S4096x128 .f32) : Vec F S1x1024x5 .i32 :=
  k0_pay19 (k0_pay3 (F := F)) (k0_pay6 i y (rows i y)) (k0_pay7 i y (rows i y)) (k0_pay9 i y (rows i y))

/-- The block of correlations, from the scratch memory's contents. -/
def weightBlock (i : grid0.Coords) (y : Vec F S4096x128 .f32) : Vec F S1x1024x5 .f32 :=
  k0_pay1 (k0_pay20 (k0_pay3 (F := F)) (k0_pay5 i y (rows i y)) (k0_pay7 i y (rows i y)) (k0_pay8 i y (rows i y))
    (k0_pay9 i y (rows i y)))

/-- The scratch memory stored whole holds what was stored. -/
theorem read_stored (v : View sig .tc .vmem S4096x128 .f32)
    (inb : ∀ a, (![0, 0] : Fin 2 → Nat) a + (![4096, 128] : Fin 2 → Nat) a ≤ S4096x128.size a) (y : Vec F S4096x128 .f32) :
    v.read (Elt F) (v.writes (Elt F) v.junk
      [(⟨Rect.unit (s := S4096x128) ![0, 0] ![4096, 128] inb, y⟩ : View.Piece (Elt F) S4096x128 .f32)]) = y :=
  funext fun j => (View.read_writes_junk_apply_eq_canon v j _).trans
    (congrFun (View.canon_unit_zero (S := S4096x128) hz inb y) j)

/-- Case B, the numbers: what the scratch memory's contents give. -/
theorem out_B_1 (c : Dev nD) (i : grid0.Coords) (a2 : Memref sig .tc .vmem S1x4096x128 .f32) (h2 : a2.IsWhole)
    (a3 : Memref sig .tc .vmem S1x1024x5 .i32) (h3 : a3.IsWhole) (a4 : Memref sig .tc .vmem S1x1024x5 .f32) (h4 : a4.IsWhole)
    (a5 : Memref sig .tc .vmem S4096x128 .f32) (h5 : a5.IsWhole) (hc : ¬cond0_0 i) (x : Vec F S1x4096x128 .f32)
    (y : Vec F S4096x128 .f32) : out0_B_1 c i a2 h2 a3 h3 a4 h4 a5 h5 hc x y = idxBlock i y := by
  unfold out0_B_1
  rw [View.read_writes_eq_canon _ _ _ (cover0_B_1 c i a2 h2 a3 h3 a4 h4 a5 h5 hc x y)]
  unfold kernelRun0_B
  dsimp only
  sl_unfold_words
  rw [View.canon_unit_zero hz3]
  simp only [View.readAt_eq_ld, h5.read_unread, View.ld_unit_zero (S := S4096x128) hz]
  rfl

/-- Case B, the correlations. -/
theorem out_B_2 (c : Dev nD) (i : grid0.Coords) (a2 : Memref sig .tc .vmem S1x4096x128 .f32) (h2 : a2.IsWhole)
    (a3 : Memref sig .tc .vmem S1x1024x5 .i32) (h3 : a3.IsWhole) (a4 : Memref sig .tc .vmem S1x1024x5 .f32) (h4 : a4.IsWhole)
    (a5 : Memref sig .tc .vmem S4096x128 .f32) (h5 : a5.IsWhole) (hc : ¬cond0_0 i) (x : Vec F S1x4096x128 .f32)
    (y : Vec F S4096x128 .f32) : out0_B_2 c i a2 h2 a3 h3 a4 h4 a5 h5 hc x y = weightBlock i y := by
  unfold out0_B_2
  rw [View.read_writes_eq_canon _ _ _ (cover0_B_2 c i a2 h2 a3 h3 a4 h4 a5 h5 hc x y)]
  unfold kernelRun0_B
  dsimp only
  sl_unfold_words
  rw [View.canon_unit_zero hz3]
  simp only [View.readAt_eq_ld, h5.read_unread, View.ld_unit_zero (S := S4096x128) hz]
  rfl

/-- Case A, the scratch memory: the normalised series of the staged block. -/
theorem sout_A (c : Dev nD) (i : grid0.Coords) (a2 : Memref sig .tc .vmem S1x4096x128 .f32) (h2 : a2.IsWhole)
    (a3 : Memref sig .tc .vmem S1x1024x5 .i32) (h3 : a3.IsWhole) (a4 : Memref sig .tc .vmem S1x1024x5 .f32) (h4 : a4.IsWhole)
    (a5 : Memref sig .tc .vmem S4096x128 .f32) (h5 : a5.IsWhole) (hc : cond0_0 i) (x : Vec F S1x4096x128 .f32) :
    sout0_A_0 c i a2 h2 a3 h3 a4 h4 a5 h5 hc x = k0_pay2 x := by
  unfold sout0_A_0
  rw [View.read_writes_eq_canon _ _ _ (scover0_A_0 c i a2 h2 a3 h3 a4 h4 a5 h5 hc x)]
  unfold kernelRun0_A
  dsimp only
  sl_unfold_words
  rw [View.canon_unit_zero hz]
  simp only [View.readAt_eq_ld, h2.read_unread, View.ld_unit_zero (S := S1x4096x128) hz3]

/-- Case A, the numbers: what the normalised series give. -/
theorem out_A_1 (c : Dev nD) (i : grid0.Coords) (a2 : Memref sig .tc .vmem S1x4096x128 .f32) (h2 : a2.IsWhole)
    (a3 : Memref sig .tc .vmem S1x1024x5 .i32) (h3 : a3.IsWhole) (a4 : Memref sig .tc .vmem S1x1024x5 .f32) (h4 : a4.IsWhole)
    (a5 : Memref sig .tc .vmem S4096x128 .f32) (h5 : a5.IsWhole) (hc : cond0_0 i) (x : Vec F S1x4096x128 .f32) :
    out0_A_1 c i a2 h2 a3 h3 a4 h4 a5 h5 hc x = idxBlock i (k0_pay2 x) := by
  unfold out0_A_1
  rw [View.read_writes_eq_canon _ _ _ (cover0_A_1 c i a2 h2 a3 h3 a4 h4 a5 h5 hc x)]
  unfold kernelRun0_A
  dsimp only
  sl_unfold_words
  rw [View.canon_unit_zero hz3]
  simp only [View.readCov_unit_zero (S := S4096x128) _ hz, View.readAt_eq_ld, read_stored, h2.read_unread,
    View.ld_unit_zero (S := S1x4096x128) hz3]
  rfl

/-- Case A, the correlations. -/
theorem out_A_2 (c : Dev nD) (i : grid0.Coords) (a2 : Memref sig .tc .vmem S1x4096x128 .f32) (h2 : a2.IsWhole)
    (a3 : Memref sig .tc .vmem S1x1024x5 .i32) (h3 : a3.IsWhole) (a4 : Memref sig .tc .vmem S1x1024x5 .f32) (h4 : a4.IsWhole)
    (a5 : Memref sig .tc .vmem S4096x128 .f32) (h5 : a5.IsWhole) (hc : cond0_0 i) (x : Vec F S1x4096x128 .f32) :
    out0_A_2 c i a2 h2 a3 h3 a4 h4 a5 h5 hc x = weightBlock i (k0_pay2 x) := by
  unfold out0_A_2
  rw [View.read_writes_eq_canon _ _ _ (cover0_A_2 c i a2 h2 a3 h3 a4 h4 a5 h5 hc x)]
  unfold kernelRun0_A
  dsimp only
  sl_unfold_words
  rw [View.canon_unit_zero hz3]
  simp only [View.readCov_unit_zero (S := S4096x128) _ hz, View.readAt_eq_ld, read_stored, h2.read_unread,
    View.ld_unit_zero (S := S1x4096x128) hz3]
  rfl

end Cert.KernelIdeal.Cases

end
-- ==== Proof.KernelArrays.lean ====
/-
  What the kernel's two result arrays hold after the last grid point: the scratch memory holds the normalised series of
  the current batch entry at every point (`scratch_apply`), so each point writes back its row block of the neighbours'
  numbers and of the correlations with them, and the row blocks cover the arrays (`final_idx`, `final_weight`).
-/
module

public import proofs.«01_k».proof.Proof.Arrays
public import proofs.«01_k».proof.Proof.Block
public import proofs.«01_k».proof.Proof.Cases
public import Idealize.ShloMosaic.Lib.Pipeline.ValueKit.Tiles

@[expose] public section

set_option maxRecDepth 16384

noncomputable section

namespace Cert.KernelIdeal.Final

open Idealize.ShloMosaic Idealize.ShloMosaic.TcCoe Idealize.ShloMosaic.ValueIdx Cert.KernelIdeal Cert.KernelIdeal.Gen
open Cert.Spec Cert.Arrays Cert.KernelIdeal.Block Cert.KernelIdeal.Cases

variable (m : (ℓ : Loc nD τ sig) → Buf (Elt Ideal) ℓ)

/-- The input. -/
abbrev inp (c : Dev nD) : (⟨3, ![4, 4096, 128]⟩ : Shape).Idx → EReal := m ((c : Thread nD τ).loc main_arg0)

/-! ## The grid's points -/

/-- There are 16 grid points. -/
theorem lt16 (t : Fin cfg0.N) : t.val < 16 := Nat.lt_of_lt_of_eq t.isLt N_0

/-- The batch entry of point `n`. -/
def batch (n : ℕ) (h : n < cfg0.N) : Fin 4 := ⟨n / 4, by have := lt16 ⟨n, h⟩; dsimp only at this; omega⟩

/-- The row block of point `n`. -/
def part (n : ℕ) : Fin 4 := ⟨n % 4, Nat.mod_lt _ (by decide)⟩

/-- A grid point's second coordinate is its row block. -/
theorem coords_1 : ∀ t : Fin cfg0.N, (grid0.coords t 1).val = (part t.val).val := fun t =>
  (Pipeline.Grid.coords_val t 1 (by decide) rfl : (grid0.coords t 1).val = t.val / 1 % 4).trans
    (by rw [Nat.div_one]; rfl)

/-- The input's block at a grid point: the whole batch entry. -/
theorem index0 : ∀ t : Fin grid0.N, win0_0.index t 0 = t.val / 4 ∧ win0_0.index t 1 = 0 ∧ win0_0.index t 2 = 0 := by
  decide +kernel
/-- The first output's block at a grid point: a row block of the batch entry. -/
theorem index1 : ∀ t : Fin grid0.N, win0_1.index t 0 = t.val / 4 ∧ win0_1.index t 1 = t.val % 4 ∧ win0_1.index t 2 = 0 := by
  decide +kernel
/-- The second output's block at a grid point: a row block of the batch entry. -/
theorem index2 : ∀ t : Fin grid0.N, win0_2.index t 0 = t.val / 4 ∧ win0_2.index t 1 = t.val % 4 ∧ win0_2.index t 2 = 0 := by
  decide +kernel

/-! ## The staged block and the scratch memory -/

/-- The block staged at a point is the point's batch entry. -/
theorem iblk_apply (c : Dev nD) (t : Fin cfg0.N) (u : Fin 4096) (s : Fin 128) :
    (iblk m c 0 t : Vec Ideal S1x4096x128 .f32) (ix3 0 u s) = inp m c (ix3 (batch t.val t.isLt) u s) := by
  unfold iblk
  rw [View.read_apply]
  show V m c main_arg0 _ = m (c.tc.loc main_arg0) _
  unfold V
  congr 1
  funext a
  apply Fin.ext
  obtain ⟨e0, e1, e2⟩ := index0 t
  match a with
  | ⟨0, _⟩ => show win0_0.index t 0 * 1 + 1 * 0 = t.val / 4; rw [e0]; omega
  | ⟨1, _⟩ => show win0_0.index t 1 * 4096 + 1 * u.val = u.val; rw [e1]; omega
  | ⟨2, _⟩ => show win0_0.index t 2 * 128 + 1 * s.val = s.val; rw [e2]; omega

/-- After every point the scratch memory holds the normalised series of the point's batch entry. -/
theorem scratch_apply (c : Dev nD) : ∀ (n : ℕ) (h : n < cfg0.N) (u : Fin 4096) (s : Fin 128),
    (outsAt0 m c n h).2.2 (ix2 u s) = Spec.norm (series (inp m c) (batch n h) u) s
  | n, h, u, s => by
    by_cases h0 : n % 4 = 0
    · rw [show outsAt0 m c n h = _ from outsAt0_A m c ⟨n, h⟩ h0]
      dsimp only
      rw [sout_A, pay2_apply]
      exact congrArg (fun x => Spec.norm x s) (funext fun s => iblk_apply m c ⟨n, h⟩ u s)
    · rw [show outsAt0 m c n h = _ from outsAt0_B m c ⟨n, h⟩ h0]
      dsimp only
      unfold sout0_B_0
      rw [scratch_apply c (n - 1) (by omega) u s]
      have : batch (n - 1) (by omega) = batch n h := Fin.ext (by show (n - 1) / 4 = n / 4; omega)
      rw [this]
  termination_by n => n
  decreasing_by omega

/-- What both blocks written at a point are computed from: the scratch memory as the point's body reads it. -/
theorem outs_eq (c : Dev nD) (t : Fin cfg0.N) : ∃ y : Vec Ideal S4096x128 .f32,
    (∀ u s, y (ix2 u s) = Spec.norm (series (inp m c) (batch t.val t.isLt) u) s)
    ∧ (outsAt0 m c t.val t.isLt).1 = idxBlock (grid0.coords t) y
    ∧ (outsAt0 m c t.val t.isLt).2.1 = weightBlock (grid0.coords t) y := by
  refine ⟨(outsAt0 m c t.val t.isLt).2.2, scratch_apply m c t.val t.isLt, ?_⟩
  by_cases h0 : t.val % 4 = 0
  · rw [outsAt0_A m c t h0]
    dsimp only
    rw [sout_A]
    exact ⟨out_A_1 .., out_A_2 ..⟩
  · rw [outsAt0_B m c t h0]
    dsimp only
    unfold sout0_B_0
    exact ⟨out_B_1 .., out_B_2 ..⟩

/-- A row block's rows of the scratch memory are its nodes' rows. -/
theorem rows_apply (i : grid0.Coords) (j : Fin 4) (hj : (i 1).val = j.val) (y : Vec Ideal S4096x128 .f32) (r : Fin 1024)
    (s : Fin 128) : rows i y (ix2 r s) = y (ix2 (node j r) s) := by
  unfold rows
  refine View.ld_unit_apply_of _ _ _ _ _ _ fun a => ?_
  refine Eq.trans ?_ (congrArg (· + _) (congrFun (k0_off1_eq i) a).symm)
  rw [hj]
  match a with
  | ⟨0, _⟩ => show j.val * 1024 + r.val = 1024 * j.val + r.val; omega
  | ⟨1, _⟩ => show s.val = 0 + s.val; omega

/-- What a grid point leaves in the first output's block: the neighbours' numbers of its rows. -/
theorem outs_idx (c : Dev nD) (t : Fin cfg0.N) (r : Fin 1024) (k : Fin 5) :
    (outsAt0 m c t.val t.isLt).1 (ix3 0 r k) = idxArr (inp m c) (ix3 (batch t.val t.isLt) (node (part t.val) r) k) := by
  obtain ⟨y, hy, e, -⟩ := outs_eq m c t
  rw [e]
  exact idx_apply _ _ (part t.val) (coords_1 t) y hy _
    (fun r s => (rows_apply _ _ (coords_1 t) y r s).trans (hy _ s)) r k

/-- What it leaves in the second's: the correlations with them. -/
theorem outs_weight (c : Dev nD) (t : Fin cfg0.N) (r : Fin 1024) (k : Fin 5) :
    (outsAt0 m c t.val t.isLt).2.1 (ix3 0 r k) = weightArr (inp m c) (ix3 (batch t.val t.isLt) (node (part t.val) r) k) := by
  obtain ⟨y, hy, -, e⟩ := outs_eq m c t
  rw [e]
  exact weight_apply _ _ (part t.val) (coords_1 t) y hy _
    (fun r s => (rows_apply _ _ (coords_1 t) y r s).trans (hy _ s)) r k

/-! ## The arrays after the last point -/

/-- The point whose block holds the rows of node `u` of batch entry `b`. -/
def pointOf (b : Fin 4) (u : Fin 4096) : Fin cfg0.N := ⟨b.val * 4 + u.val / 1024, by have : cfg0.N = 16 := N_0; omega⟩

/-- What a grid point writes back to the first array is the block of the neighbours' numbers. -/
theorem flushed_idx (c : Dev nD) (t : Fin cfg0.N) :
    (dats m 0 c).flushed 1 t = ((cfg0.win 1).blk t).view.read (Elt Ideal) (idxArr (inp m c)) := by
  show (cfg0.win 1).cut (grid0.coords t) ((dats m 0 c).after 1 t) = _
  rw [after0_1]
  funext y
  rw [View.read_apply]
  obtain ⟨e0, e1, e2⟩ := index1 t
  have hy : (y : S1x1024x5.Idx) = ix3 0 (y 1) (y 2) :=
    (eq_ix3 (y : S1x1024x5.Idx)).trans (congrArg (fun z => ix3 z (y 1) (y 2)) (Subsingleton.elim (α := Fin 1) _ _))
  refine (congrArg (outsAt0 m c t.val t.isLt).1 hy).trans ((outs_idx m c t (y 1) (y 2)).trans ?_)
  refine congrArg (idxArr (inp m c)) (funext fun a => Fin.ext ?_)
  match a with
  | ⟨0, _⟩ =>
    have hy0 : (y 0 : ℕ) < 1 := (y 0).isLt
    show t.val / 4 = win0_1.index t 0 * 1 + 1 * (y 0 : ℕ); rw [e0]; omega
  | ⟨1, _⟩ => show t.val % 4 * 1024 + (y 1 : ℕ) = win0_1.index t 1 * 1024 + 1 * (y 1 : ℕ); rw [e1]; omega
  | ⟨2, _⟩ => show (y 2 : ℕ) = win0_1.index t 2 * 5 + 1 * (y 2 : ℕ); rw [e2]; omega

/-- What it writes back to the second is the block of the correlations. -/
theorem flushed_weight (c : Dev nD) (t : Fin cfg0.N) :
    (dats m 0 c).flushed 2 t = ((cfg0.win 2).blk t).view.read (Elt Ideal) (weightArr (inp m c)) := by
  show (cfg0.win 2).cut (grid0.coords t) ((dats m 0 c).after 2 t) = _
  rw [after0_2]
  funext y
  rw [View.read_apply]
  obtain ⟨e0, e1, e2⟩ := index2 t
  have hy : (y : S1x1024x5.Idx) = ix3 0 (y 1) (y 2) :=
    (eq_ix3 (y : S1x1024x5.Idx)).trans (congrArg (fun z => ix3 z (y 1) (y 2)) (Subsingleton.elim (α := Fin 1) _ _))
  refine (congrArg (outsAt0 m c t.val t.isLt).2.1 hy).trans ((outs_weight m c t (y 1) (y 2)).trans ?_)
  refine congrArg (weightArr (inp m c)) (funext fun a => Fin.ext ?_)
  match a with
  | ⟨0, _⟩ =>
    have hy0 : (y 0 : ℕ) < 1 := (y 0).isLt
    show t.val / 4 = win0_2.index t 0 * 1 + 1 * (y 0 : ℕ); rw [e0]; omega
  | ⟨1, _⟩ => show t.val % 4 * 1024 + (y 1 : ℕ) = win0_2.index t 1 * 1024 + 1 * (y 1 : ℕ); rw [e1]; omega
  | ⟨2, _⟩ => show (y 2 : ℕ) = win0_2.index t 2 * 5 + 1 * (y 2 : ℕ); rw [e2]; omega

/-- The first result array ends holding the neighbours' numbers. -/
theorem final_idx (c : Dev nD) : (dats m 0 c).arrAt 1 cfg0.N = idxArr (inp m c) :=
  (dats m 0 c).arrAt_eq_of_cover 1 (idxArr (inp m c)) (fun t _ => flushed_idx m c t) fun i =>
    ⟨pointOf (i 0) (i 1), flush0_1 _, by
      show i ∈ ((View.whole main_v0_0).slice (win0_1.rect (pointOf (i 0) (i 1)))).set
      rw [View.set_slice_whole, Rect.mem_set_unit]
      intro a
      obtain ⟨e0, e1, e2⟩ := index1 (pointOf (i 0) (i 1))
      have h0 : (i 0 : Nat) < 4 := (i 0).isLt
      have h1 : (i 1 : Nat) < 4096 := (i 1).isLt
      have h2 : (i 2 : Nat) < 5 := (i 2).isLt
      have hp : (pointOf (i 0) (i 1)).val = (i 0 : Nat) * 4 + (i 1 : Nat) / 1024 := rfl
      match a with
      | ⟨0, _⟩ => show win0_1.index (pointOf (i 0) (i 1)) 0 * 1 ≤ (i 0 : Nat) ∧ (i 0 : Nat) < win0_1.index (pointOf (i 0) (i 1)) 0 * 1 + 1
                  rw [e0, hp]; omega
      | ⟨1, _⟩ => show win0_1.index (pointOf (i 0) (i 1)) 1 * 1024 ≤ (i 1 : Nat) ∧ (i 1 : Nat) < win0_1.index (pointOf (i 0) (i 1)) 1 * 1024 + 1024
                  rw [e1, hp]; omega
      | ⟨2, _⟩ => show win0_1.index (pointOf (i 0) (i 1)) 2 * 5 ≤ (i 2 : Nat) ∧ (i 2 : Nat) < win0_1.index (pointOf (i 0) (i 1)) 2 * 5 + 5
                  rw [e2]; omega⟩

/-- The second result array ends holding the correlations with them. -/
theorem final_weight (c : Dev nD) : (dats m 0 c).arrAt 2 cfg0.N = weightArr (inp m c) :=
  (dats m 0 c).arrAt_eq_of_cover 2 (weightArr (inp m c)) (fun t _ => flushed_weight m c t) fun i =>
    ⟨pointOf (i 0) (i 1), flush0_2 _, by
      show i ∈ ((View.whole main_v0_1).slice (win0_2.rect (pointOf (i 0) (i 1)))).set
      rw [View.set_slice_whole, Rect.mem_set_unit]
      intro a
      obtain ⟨e0, e1, e2⟩ := index2 (pointOf (i 0) (i 1))
      have h0 : (i 0 : Nat) < 4 := (i 0).isLt
      have h1 : (i 1 : Nat) < 4096 := (i 1).isLt
      have h2 : (i 2 : Nat) < 5 := (i 2).isLt
      have hp : (pointOf (i 0) (i 1)).val = (i 0 : Nat) * 4 + (i 1 : Nat) / 1024 := rfl
      match a with
      | ⟨0, _⟩ => show win0_2.index (pointOf (i 0) (i 1)) 0 * 1 ≤ (i 0 : Nat) ∧ (i 0 : Nat) < win0_2.index (pointOf (i 0) (i 1)) 0 * 1 + 1
                  rw [e0, hp]; omega
      | ⟨1, _⟩ => show win0_2.index (pointOf (i 0) (i 1)) 1 * 1024 ≤ (i 1 : Nat) ∧ (i 1 : Nat) < win0_2.index (pointOf (i 0) (i 1)) 1 * 1024 + 1024
                  rw [e1, hp]; omega
      | ⟨2, _⟩ => show win0_2.index (pointOf (i 0) (i 1)) 2 * 5 ≤ (i 2 : Nat) ∧ (i 2 : Nat) < win0_2.index (pointOf (i 0) (i 1)) 2 * 5 + 5
                  rw [e2]; omega⟩

end Cert.KernelIdeal.Final

end
-- ==== Proof.Layout.lean ====
/-
  The last change of layout, from an array of neighbours' numbers and an array of weights to the two results: the edges'
  ends as two rows of node numbers counted over all batch entries, and the weights in one row.
-/
module

public import proofs.«01_k».proof.Proof.Gen.KernelIdeal
public import Idealize.ShloMosaic.PureOps.Ideal

@[expose] public section

noncomputable section

namespace Cert.Layout

open Idealize.ShloMosaic Cert.KernelIdeal Cert.KernelIdeal.Gen

/-- The number of a batch entry's first node among all nodes, on every edge of the entry. -/
def offset : IVec S4x4096x5 32 :=
  broadcastInDim S4x4096x5 ![0, 1, 2] bcast_S4x1x1_S4x4096x5_0_1_2
    (broadcastInDim S4x1x1 ![0] bcast_S4_S4x1x1_0
      (muli (iotaInDim S4 32 0) (broadcastInDim S4 ![] bcast_S_S4 (constantI S_ 32 4096#32))))

/-- The edges' two ends, each a row of node numbers: the node and its neighbour. -/
def edges (idx : IVec S4x4096x5 32) : IVec S2x81920 32 :=
  concatenate S2x81920 0
    [⟨S1x81920, broadcastInDim S1x81920 ![1] bcast_S81920_S1x81920_1
      (shapeCast S81920 (addi (broadcastInDim S4x4096x5 ![0, 1, 2] bcast_S1x4096x1_S4x4096x5_0_1_2
        (broadcastInDim S1x4096x1 ![1] bcast_S4096_S1x4096x1_1 (iotaInDim S4096 32 0))) offset) shapeCasts_S4x4096x5_S81920)⟩,
     ⟨S1x81920, broadcastInDim S1x81920 ![1] bcast_S81920_S1x81920_1
      (shapeCast S81920 (addi idx offset) shapeCasts_S4x4096x5_S81920)⟩]
    concatenates_S1x81920_S1x81920_S2x81920_d0

/-- The edges' weights in one row. -/
def flat (w : FVec Ideal S4x4096x5 .f32) : FVec Ideal S81920 .f32 := shapeCast S81920 w shapeCasts_S4x4096x5_S81920

end Cert.Layout

end
-- ==== Proof.KernelResult.lean ====
/-
  What a run of the kernel's program ends with: its two results are the last change of layout (`edges`, `flat`) of the
  arrays of the neighbours' numbers and of the correlations with them, and its argument is unchanged.
-/
module

public import proofs.«01_k».proof.Proof.KernelArrays
public import proofs.«01_k».proof.Proof.Layout
public import Idealize.ShloMosaic.Lib.StableHlo.Run

@[expose] public section

set_option maxRecDepth 16384

noncomputable section

namespace Cert.KernelIdeal.Final

open Idealize.ShloMosaic Idealize.ShloMosaic.TcCoe Idealize.SL.Sem Cert.KernelIdeal Cert.KernelIdeal.Gen
open Cert.Arrays Cert.Layout

variable (m : (ℓ : Loc nD τ sig) → Buf (Elt Ideal) ℓ) (ρ : Dev nD → PrngReg)

/-- The arrays the lines after the kernel read. -/
theorem tail_idx (c : Dev nD) :
    Pipeline.withArrays (cfgs (0 : Fin 1)).spec c (V0 m c) (fun w => (dats m 0 c).arrAt w (cfgs (0 : Fin 1)).N)
      (Proc.devRef .tc main_v0_0) = idxArr (inp m c) :=
  (Pipeline.withArrays_arr spec0 winFacts0.arr_inj c (V0 m c) (fun w => (dats m 0 c).arrAt w cfg0.N) 1).trans (final_idx m c)

/-- The same of the second array. -/
theorem tail_weight (c : Dev nD) :
    Pipeline.withArrays (cfgs (0 : Fin 1)).spec c (V0 m c) (fun w => (dats m 0 c).arrAt w (cfgs (0 : Fin 1)).N)
      (Proc.devRef .tc main_v0_1) = weightArr (inp m c) :=
  (Pipeline.withArrays_arr spec0 winFacts0.arr_inj c (V0 m c) (fun w => (dats m 0 c).arrAt w cfg0.N) 2).trans (final_weight m c)

/-- The first result after the last line. -/
theorem after_edges (c : Dev nD) :
    Pipeline.afterTail₀ cfgs (dats m) 0 (V0 m) [hostOps1] c main_v16 = edges (idxArr (inp m c)) := by
  unfold Pipeline.afterTail₀
  rw [← tail_idx m c]
  generalize Pipeline.withArrays (cfgs (0 : Fin 1)).spec c (V0 m c) (fun w => (dats m 0 c).arrAt w (cfgs (0 : Fin 1)).N) = W
  show StableHlo.after hostOps1 W (Proc.devRef .tc main_v16) = _
  after_results
  rfl

/-- The second result after the last line. -/
theorem after_flat (c : Dev nD) :
    Pipeline.afterTail₀ cfgs (dats m) 0 (V0 m) [hostOps1] c main_v17 = flat (weightArr (inp m c)) := by
  unfold Pipeline.afterTail₀
  rw [← tail_weight m c]
  generalize Pipeline.withArrays (cfgs (0 : Fin 1)).spec c (V0 m c) (fun w => (dats m 0 c).arrAt w (cfgs (0 : Fin 1)).N) = W
  show StableHlo.after hostOps1 W (Proc.devRef .tc main_v17) = _
  after_results
  rfl

/-- The run: the two results, the argument unchanged. -/
theorem run : θ_run defs (onTc (τ := τ) (main (F := Ideal))) ⟨m, fun _ => 0, ρ⟩ fun r => ∀ c : Dev nD,
      r.2.mem ((c : Thread nD τ).loc main_v16) = edges (idxArr (inp m c))
      ∧ r.2.mem ((c : Thread nD τ).loc main_v17) = flat (weightArr (inp m c))
      ∧ r.2.mem ((c : Thread nD τ).loc main_arg0) = m ((c : Thread nD τ).loc main_arg0) :=
  (θ_run defs _ _).mono (fun _ h c => ⟨((h c).2 main_v16 (by decide)).trans (after_edges m c),
      ((h c).2 main_v17 (by decide)).trans (after_flat m c),
      ((h c).1 0).trans (((dats m 0 c).arrAt_in 0 rfl _).trans ((A_eq m c 0).trans (V_main_arg0 m c)))⟩)
    (run_main m ρ)

end Cert.KernelIdeal.Final

end
-- ==== Proof.RefSeries.lean ====
/-
  What the reference computes up to the table of correlations: its steps by name, and each step read at an index. The
  normalised array at a place is the normalised series' value there; the product's quotient at a pair of nodes is their
  correlation; the table with a masked diagonal holds the masked rows.
-/
module

public import proofs.«01_k».proof.Proof.Arrays
public import proofs.«01_k».proof.Proof.Gen.ReferenceIdeal
public import Idealize.ShloMosaic.Lib.IdealHost
public import Idealize.ShloMosaic.Lib.ValueLayout

@[expose] public section

set_option maxRecDepth 16384

noncomputable section

namespace Cert.ReferenceIdeal.Ref

open Idealize.ShloMosaic Idealize.ShloMosaic.ValueIdx Cert.ReferenceIdeal Cert.ReferenceIdeal.Gen
open Cert.Arrays Cert.Spec

set_option backward.isDefEq.respectTransparency false

/-! ## The steps -/

/-- A number in every place of an array with one value per node. -/
def perNode (bits : BitVec 32) : FVec Ideal S4x1x4096 .f32 :=
  broadcastInDim S4x1x4096 ![] bcast_S_S4x1x4096 (constant S_ .f32 bits)

/-- The sum over time. -/
def overTime (x : FVec Ideal S4x128x4096 .f32) : FVec Ideal S4x1x4096 .f32 :=
  broadcastInDim S4x1x4096 ![0, 2] bcast_S4x4096_S4x1x4096_0_2
    (Host.reduceAdd x (constant S_ .f32 0x00000000#32) reducesTo_S4x128x4096_S4x4096_d1 h_S_)

/-- One value per node, at each time. -/
def eachTime (x : FVec Ideal S4x1x4096 .f32) : FVec Ideal S4x128x4096 .f32 :=
  broadcastInDim S4x128x4096 ![0, 1, 2] bcast_S4x1x4096_S4x128x4096_0_1_2 x

/-- The argument, time before node. -/
def turned (A : FVec Ideal S4x4096x128 .f32) : FVec Ideal S4x128x4096 .f32 :=
  transpose S4x128x4096 [0, 2, 1] A transposes_S4x4096x128_S4x128x4096_0_2_1

/-- The deviations from the means. -/
def devs (A : FVec Ideal S4x4096x128 .f32) : FVec Ideal S4x128x4096 .f32 :=
  subf (turned A) (eachTime (Host.divf (overTime (turned A)) (perNode 0x43000000#32)))

/-- The divisor of the variance, one less than the number of times. -/
def degrees : FVec Ideal S_ .f32 := subf (constant S_ .f32 0x43000000#32) (sitofp .f32 (constantI S_ 32 1#32))

/-- The variances. -/
def variance (A : FVec Ideal S4x4096x128 .f32) : FVec Ideal S4x1x4096 .f32 :=
  select (broadcastInDim S4x1x4096 ![] bcast_S_S4x1x4096 (cmpf .ogt degrees (constant S_ .f32 0x00000000#32)))
    (Host.divf (overTime (mulf (devs A) (devs A))) (broadcastInDim S4x1x4096 ![] bcast_S_S4x1x4096 degrees))
    (broadcastInDim S4x1x4096 ![] bcast_S_S4x1x4096 (id (constant S_ .f32 0x7FC00000#32)))

/-- The normalised array. -/
def normal (A : FVec Ideal S4x4096x128 .f32) : FVec Ideal S4x128x4096 .f32 :=
  Host.divf (devs A) (eachTime (addf (Host.sqrt (variance A)) (perNode 0x322BCC77#32)))

/-- The table of correlations. -/
def table (A : FVec Ideal S4x4096x128 .f32) : FVec Ideal S4x4096x4096 .f32 :=
  Host.divf (Host.dotGeneral dot_S4x128x4096_S4x128x4096_S4x4096x4096_1_1_2_2_0_0 none (normal A) (normal A))
    (broadcastInDim S4x4096x4096 ![] bcast_S_S4x4096x4096 (constant S_ .f32 0x43000000#32))

/-- The table, its diagonal masked. -/
def maskedTable (A : FVec Ideal S4x4096x128 .f32) : FVec Ideal S4x4096x4096 .f32 :=
  select (broadcastInDim S4x4096x4096 ![0, 1, 2] bcast_S1x4096x4096_S4x4096x4096_0_1_2
      (broadcastInDim S1x4096x4096 ![1, 2] bcast_S4096x4096_S1x4096x4096_1_2
        (cmpi .eq (addi (iotaInDim S4096x4096 32 0)
            (broadcastInDim S4096x4096 ![] bcast_S_S4096x4096 (constantI S_ 32 0#32)))
          (iotaInDim S4096x4096 32 1))))
    (broadcastInDim S4x4096x4096 ![] bcast_S_S4x4096x4096 (id (constant S_ .f32 0xFF800000#32)))
    (table A)

/-! ## The normalised array at an index -/

/-- An index with given coordinates. -/
theorem place3 {l m n : ℕ} (i : (⟨3, ![l, m, n]⟩ : Shape).Idx) (a : Fin l) (b : Fin m) (c : Fin n)
    (ha : (i 0).val = a.val) (hb : (i 1).val = b.val) (hc : (i 2).val = c.val) : i = ix3 a b c :=
  funext fun x => Fin.ext (match x with | ⟨0, _⟩ => ha | ⟨1, _⟩ => hb | ⟨2, _⟩ => hc)

/-- A number for every node is that number. -/
theorem perNode_apply (bits : BitVec 32) (j : S4x1x4096.Idx) : perNode bits j = Ideal.ofBits .f32 bits :=
  broadcastInDim_scalar_apply bcast_S_S4x1x4096 (constant (F := Ideal) S_ .f32 bits) j

/-- A node's value at each time is its value. -/
theorem eachTime_apply (x : FVec Ideal S4x1x4096 .f32) (b : Fin 4) (s : Fin 128) (u : Fin 4096) :
    eachTime x (ix3 b s u) = x (ix3 b (0 : Fin 1) u) :=
  broadcastInDim_apply _ _ x _ _ fun a => match a with | ⟨0, _⟩ => rfl | ⟨1, _⟩ => rfl | ⟨2, _⟩ => rfl

/-- The middle axis is the one summed over. -/
theorem reduces_time : S4x128x4096.Reduces [1] S4x4096 := by decide

/-- The places summed for a node are its series'. -/
theorem lift_time (b : Fin 4) (u : Fin 4096) (s : Fin 128) :
    (reduces_time.lift (ix2 b u : S4x4096.Idx) s : S4x128x4096.Idx) = ix3 b s u := by
  refine place3 _ b s u ?_ ?_ ?_
  · rfl
  · rfl
  · rfl

/-- The sum over time at a node. -/
theorem overTime_apply (x : FVec Ideal S4x128x4096 .f32) (b : Fin 4) (u : Fin 4096) :
    overTime x (ix3 b (0 : Fin 1) u) = ∑ s : Fin 128, x (ix3 b s u) := by
  unfold overTime
  refine (broadcastInDim_apply _ _ _ _ (ix2 b u : S4x4096.Idx)
    fun a => match a with | ⟨0, _⟩ => rfl | ⟨1, _⟩ => rfl).trans ?_
  rw [hostReduceAdd_apply, Ideal.hostReduceAdd_single _ reduces_time]
  refine (congrArg (· + _) Ideal.ofBits_zero_f32).trans ((zero_add _).trans ?_)
  exact Finset.sum_congr rfl fun s _ => congrArg x (lift_time b u s)

/-- A place of the turned argument holds the series' value. -/
theorem turned_apply (A : FVec Ideal S4x4096x128 .f32) (b : Fin 4) (s : Fin 128) (u : Fin 4096) :
    turned A (ix3 b s u) = series A b u s :=
  transpose_ix3_021_apply A transposes_S4x4096x128_S4x128x4096_0_2_1 b s u

/-- The deviations are the series' deviations. -/
theorem devs_apply (A : FVec Ideal S4x4096x128 .f32) (b : Fin 4) (s : Fin 128) (u : Fin 4096) :
    devs A (ix3 b s u) = dev (series A b u) s := by
  unfold devs
  rw [subf_apply, eachTime_apply, turned_apply, hostDivf_apply, overTime_apply, perNode_apply, bits_128]
  simp only [turned_apply]
  rfl

/-- The divisor of the variance is 127. -/
theorem degrees_apply : degrees ix0 = ((127 : ℝ) : EReal) := by
  unfold degrees
  rw [subf_apply, sitofp_apply]
  refine (congrArg (· - _) bits_128).trans ?_
  show ((128 : ℝ) : EReal) - ((((1#32 : BitVec 32).toInt : ℤ) : ℝ) : EReal) = _
  rw [show ((1#32 : BitVec 32).toInt : ℤ) = 1 by decide, ← EReal.coe_sub]
  norm_num

/-- It is positive. -/
theorem positive : cmpf .ogt degrees (constant S_ .f32 0x00000000#32) ix0 = 1#1 := by
  rw [cmpf_apply, degrees_apply]
  show BitVec.ofBool (decide (Ideal.ofBits .f32 0x00000000#32 < ((127 : ℝ) : EReal))) = 1#1
  rw [Ideal.ofBits_zero_f32, decide_eq_true (by exact_mod_cast (by norm_num : (0 : ℝ) < 127))]
  rfl

/-- The variance is the mean square of the series' deviations, over 127. -/
theorem variance_apply (A : FVec Ideal S4x4096x128 .f32) (b : Fin 4) (u : Fin 4096) :
    variance A (ix3 b (0 : Fin 1) u) =
      Ideal.div (∑ s, dev (series A b u) s * dev (series A b u) s) ((127 : ℝ) : EReal) := by
  unfold variance
  rw [select_apply, broadcastInDim_scalar_apply, positive, select_one, hostDivf_apply, overTime_apply,
    broadcastInDim_scalar_apply, degrees_apply]
  simp only [mulf_apply, devs_apply]

/-- The normalised array holds the normalised series. -/
theorem normal_apply (A : FVec Ideal S4x4096x128 .f32) (b : Fin 4) (s : Fin 128) (u : Fin 4096) :
    normal A (ix3 b s u) = Spec.norm (series A b u) s := by
  unfold normal
  rw [hostDivf_apply, devs_apply, eachTime_apply, addf_apply, perNode_apply]
  show Ideal.div _ (Ideal.sqrt (variance A (ix3 b (0 : Fin 1) u)) + _) = _
  rw [variance_apply]
  rfl

/-! ## The table of correlations at an index -/

/-- The dimension numbers of the product. -/
abbrev D := dot_S4x128x4096_S4x128x4096_S4x4096x4096_1_1_2_2_0_0

/-- The places contracted are the times. -/
def contr : D.contr.Idx ≃ Fin 128 := contrEquiv1 D 128 rfl rfl

/-- Where the product reads its left operand. -/
theorem lhs_idx (b : Fin 4) (u v : Fin 4096) (s : Fin 128) :
    (D.lhsIdx (ix3 b u v : S4x4096x4096.Idx) (contr.symm s) : S4x128x4096.Idx) = ix3 b s u := by
  refine place3 _ b s u ?_ ?_ ?_
  · simp [DotDims.lhsIdx, D, dot_S4x128x4096_S4x128x4096_S4x4096x4096_1_1_2_2_0_0]; rfl
  · refine Eq.trans ?_ (contrEquiv1_symm_val D 128 rfl rfl s)
    simp [DotDims.lhsIdx, D, dot_S4x128x4096_S4x128x4096_S4x4096x4096_1_1_2_2_0_0]; rfl
  · simp [DotDims.lhsIdx, D, dot_S4x128x4096_S4x128x4096_S4x4096x4096_1_1_2_2_0_0]; rfl

/-- Where it reads its right operand. -/
theorem rhs_idx (b : Fin 4) (u v : Fin 4096) (s : Fin 128) :
    (D.rhsIdx (ix3 b u v : S4x4096x4096.Idx) (contr.symm s) : S4x128x4096.Idx) = ix3 b s v := by
  refine place3 _ b s v ?_ ?_ ?_
  · simp [DotDims.rhsIdx, D, dot_S4x128x4096_S4x128x4096_S4x4096x4096_1_1_2_2_0_0]; rfl
  · refine Eq.trans ?_ (contrEquiv1_symm_val D 128 rfl rfl s)
    simp [DotDims.rhsIdx, D, dot_S4x128x4096_S4x128x4096_S4x4096x4096_1_1_2_2_0_0]; rfl
  · simp [DotDims.rhsIdx, D, dot_S4x128x4096_S4x128x4096_S4x4096x4096_1_1_2_2_0_0]; rfl

/-- The table's entry at two nodes is their correlation. -/
theorem table_apply (A : FVec Ideal S4x4096x128 .f32) (b : Fin 4) (u v : Fin 4096) :
    table A (ix3 b u v) = corr (series A b) u v := by
  unfold table corr
  rw [hostDivf_apply, broadcastInDim_scalar_apply]
  refine congrArg₂ Ideal.div ?_ bits_128
  refine (Ideal.dotGeneral_apply D none _ (normal A) (normal A) (ix3 b u v)).trans ?_
  refine (Equiv.sum_comp contr.symm _).symm.trans (Finset.sum_congr rfl fun s _ => ?_)
  rw [lhs_idx, rhs_idx, normal_apply, normal_apply]

/-- The mask is one on the diagonal alone. -/
theorem diagonal_apply (b : Fin 4) (u v : Fin 4096) :
    broadcastInDim S4x4096x4096 ![0, 1, 2] bcast_S1x4096x4096_S4x4096x4096_0_1_2
      (broadcastInDim S1x4096x4096 ![1, 2] bcast_S4096x4096_S1x4096x4096_1_2
        (cmpi .eq (addi (iotaInDim S4096x4096 32 0)
            (broadcastInDim S4096x4096 ![] bcast_S_S4096x4096 (constantI S_ 32 0#32)))
          (iotaInDim S4096x4096 32 1))) (ix3 b u v) = BitVec.ofBool (decide (v = u)) := by
  refine (broadcastInDim_apply _ _ _ _ (ix3 (0 : Fin 1) u v : S1x4096x4096.Idx)
    fun a => match a with | ⟨0, _⟩ => rfl | ⟨1, _⟩ => rfl | ⟨2, _⟩ => rfl).trans ?_
  refine (broadcastInDim_apply _ _ _ _ (ix2 u v : S4096x4096.Idx)
    fun a => match a with | ⟨0, _⟩ => rfl | ⟨1, _⟩ => rfl).trans ?_
  show BitVec.ofBool (BitVec.ofNat 32 u.val + (broadcastInDim S4096x4096 ![] bcast_S_S4096x4096 (constantI S_ 32 0#32)) (ix2 u v)
    == BitVec.ofNat 32 v.val) = _
  rw [broadcastInDim_scalar_apply]
  show BitVec.ofBool (BitVec.ofNat 32 u.val + 0#32 == BitVec.ofNat 32 v.val) = _
  refine congrArg BitVec.ofBool ?_
  rw [BitVec.add_zero, Bool.eq_iff_iff, beq_iff_eq, decide_eq_true_iff]
  constructor
  · intro h
    have h' := congrArg BitVec.toNat h
    rw [BitVec.toNat_ofNat, BitVec.toNat_ofNat, Nat.mod_eq_of_lt (by omega), Nat.mod_eq_of_lt (by omega)] at h'
    exact Fin.ext h'.symm
  · rintro rfl; rfl

/-- The masked table's rows are the masked rows. -/
theorem maskedTable_apply (A : FVec Ideal S4x4096x128 .f32) (b : Fin 4) (u v : Fin 4096) :
    maskedTable A (ix3 b u v) = masked (series A b) u v := by
  unfold maskedTable masked
  rw [select_apply, diagonal_apply, broadcastInDim_scalar_apply, table_apply]
  by_cases h : v = u
  · rw [decide_eq_true h, if_pos h]
    exact (select_one _ _).trans bits_bot
  · rw [decide_eq_false h, if_neg h]
    exact select_zero _ _

end Cert.ReferenceIdeal.Ref

end
-- ==== Proof.RefChoice.lean ====
/-
  What the reference computes from the table of correlations: the numbers of the five greatest entries of each masked row,
  which are the neighbours' numbers, and the entries of the table at them, which are the correlations with the neighbours.
-/
module

public import proofs.«01_k».proof.Proof.RefSeries

@[expose] public section

set_option maxRecDepth 16384

noncomputable section

namespace Cert.ReferenceIdeal.Ref

open Idealize.ShloMosaic Idealize.ShloMosaic.ValueIdx Cert.ReferenceIdeal Cert.ReferenceIdeal.Gen
open Cert.Arrays Cert.Spec Cert.Rounds

set_option backward.isDefEq.respectTransparency false

/-! ## The steps -/

/-- The numbers of the five greatest entries of each row. -/
def greatest (A : FVec Ideal S4x4096x128 .f32) : IVec S4x4096x5 32 :=
  (Host.topK S4x4096x5 2 (FloatOps.cmpfTotal .gt) (maskedTable A) sliceFits_S4x4096x4096_S4x4096x5).2

/-- Numbers counted from the end made numbers counted from the start, as a column of positions. -/
def positions (idx : IVec S4x4096x5 32) : IVec S4x4096x5x1 32 :=
  shapeCast _ (select (cmpi .slt idx (broadcastInDim S4x4096x5 ![] bcast_S_S4x4096x5 (constantI S_ 32 0#32)))
    (addi idx (broadcastInDim S4x4096x5 ![] bcast_S_S4x4096x5 (constantI S_ 32 4096#32))) idx)
    shapeCasts_S4x4096x5_S4x4096x5x1

/-- Whether each position lies in the row. -/
def inside (p : IVec S4x4096x5x1 32) : IVec S4x4096x5x1 1 :=
  andi (cmpi .sge p (broadcastInDim S4x4096x5x1 ![] bcast_S_S4x4096x5x1 (constantI S_ 32 0#32)))
    (cmpi .sle p (broadcastInDim S4x4096x5x1 ![0, 1, 2, 3] bcast_S1x1x1x1_S4x4096x5x1_0_1_2_3
      (broadcastInDim S1x1x1x1 ![3] bcast_S1_S1x1x1x1_3 (constantI S1 32 4095#32))))

/-- The table's entries at the positions. -/
def taken (x : FVec Ideal S4x4096x4096 .f32) (p : IVec S4x4096x5x1 32) : FVec Ideal S4x4096x5 .f32 :=
  select (Host.reduce IntOp.andi (inside p) (constantI S_ 1 1#1) reducesTo_S4x4096x5x1_S4x4096x5_d3 h_S_)
    (Host.gather gather_S4x4096x4096_S4x4096x5x1_S4x4096x5_n_2_01_01_2_3_111 x p)
    (broadcastInDim S4x4096x5 ![] bcast_S_S4x4096x5 (constant S_ .f32 0x7FC00000#32))

/-! ## The neighbours' numbers -/

/-- The numbers of the greatest entries, from the order of a row. -/
theorem topK_apply {l m n K : ℕ} (x : FVec Ideal ⟨3, ![l, m, n]⟩ .f32) (f : Fin n → EReal) (hK : K ≤ n)
    (h : (⟨3, ![l, m, n]⟩ : Shape).Slices (fun _ => 0) ⟨3, ![l, m, K]⟩) (b : Fin l) (u : Fin m) (k : Fin K)
    (hf : ∀ v, x (ix3 b u v) = f v) :
    (Host.topK ⟨3, ![l, m, K]⟩ 2 (FloatOps.cmpfTotal (F := Ideal) (φ := .f32) .gt) x h).2 (ix3 b u k) =
      BitVec.ofNat 32 (sortedFrom (greater f) (k.castLE hK)).val := by
  have along : ∀ v : Fin n, (ix3 b u (k.castLE hK) : (⟨3, ![l, m, n]⟩ : Shape).Idx).along 2 v = ix3 b u v :=
    fun v => place3 _ b u v rfl rfl rfl
  unfold Host.topK Host.sort2
  simp only
  refine (extractStridedSlice_apply _ _ h _ (ix3 b u (k.castLE hK))
    fun a => match a with | ⟨0, _⟩ => (Nat.zero_add _).symm | ⟨1, _⟩ => (Nat.zero_add _).symm | ⟨2, _⟩ => (Nat.zero_add _).symm).trans ?_
  rw [dif_pos (by decide : (2 : ℕ) < 3)]
  simp only
  rw [dif_pos (by decide : (2 : ℕ) < 3), iotaInDim_apply]
  refine congrArg (BitVec.ofNat 32) ?_
  show (sortedFrom (n := n) _ (k.castLE hK)).val = _
  refine congrArg (fun g => (sortedFrom g (k.castLE hK)).val) (funext fun p => funext fun q => ?_)
  show (FloatOps.cmpfTotal (F := Ideal) (φ := .f32) .gt (x (Shape.Idx.along _ 2 p)) (x (Shape.Idx.along _ 2 q)) == 1#1) = _
  rw [along, along, hf, hf]
  show (BitVec.ofBool (decide (f q < f p)) == 1#1) = decide (f q < f p)
  cases decide (f q < f p) <;> rfl

/-- They are the neighbours' numbers. -/
theorem greatest_eq (A : FVec Ideal S4x4096x128 .f32) : greatest A = idxArr A := by
  funext i
  rw [eq_ix3 i]
  refine (topK_apply (maskedTable A) (masked (series A (i 0)) (i 1)) (by decide : 5 ≤ 4096) sliceFits_S4x4096x4096_S4x4096x5
    (i 0) (i 1) (i 2)
    fun v => maskedTable_apply A (i 0) (i 1) v).trans ?_
  rw [sortedFrom_eq_sel (enough (series A (i 0)) (i 1))]
  rfl

/-! ## The entries at them -/

/-- A number below 4096 stays as it is. -/
theorem position_apply (idx : IVec S4x4096x5 32) (i : S4x4096x5.Idx) (n : ℕ) (hn : n < 4096)
    (hi : idx i = BitVec.ofNat 32 n) (j : S4x4096x5x1.Idx) (h : (S4x4096x5.rowMajor i).val = (S4x4096x5x1.rowMajor j).val) :
    positions idx j = BitVec.ofNat 32 n := by
  refine (shapeCast_apply _ shapeCasts_S4x4096x5_S4x4096x5x1 j i h).trans ?_
  show Scalar.select (BitVec.ofBool ((idx i).slt _)) _ (idx i) = _
  rw [broadcastInDim_scalar_apply, hi]
  have e : (BitVec.ofNat 32 n).slt 0#32 = false := by
    rw [BitVec.slt, toInt_small hn]; simp
  show Scalar.select (BitVec.ofBool ((BitVec.ofNat 32 n).slt 0#32)) _ _ = _
  rw [e]
  exact select_zero _ _

/-- A conjunction of ones is one. -/
theorem fold_ones {ι : Type} (l : List ι) (f : ι → BitVec 1) (h : ∀ n, f n = 1#1) :
    l.foldl (fun r n => IntOp.andi r (f n)) 1#1 = 1#1 := by
  induction l with
  | nil => rfl
  | cons a t ih => rw [List.foldl_cons, h a]; exact ih

/-- A position below 4096 lies in the row. -/
theorem inside_apply (p : IVec S4x4096x5x1 32) (j : S4x4096x5x1.Idx) (n : ℕ) (hn : n < 4096) (hp : p j = BitVec.ofNat 32 n) :
    inside p j = 1#1 := by
  have h0 : (0#32 : BitVec 32).sle (BitVec.ofNat 32 n) = true := by
    rw [BitVec.sle, toInt_small hn]; simp
  have h1 : (BitVec.ofNat 32 n).sle 4095#32 = true := by
    rw [BitVec.sle, toInt_small hn, decide_eq_true_iff]
    rw [show (4095#32 : BitVec 32).toInt = 4095 by decide]
    omega
  unfold inside
  show IntOp.andi (BitVec.ofBool (BitVec.sle _ (p j))) (BitVec.ofBool (BitVec.sle (p j) _)) = _
  rw [hp, broadcastInDim_scalar_apply]
  show IntOp.andi (BitVec.ofBool (BitVec.sle 0#32 _)) (BitVec.ofBool (BitVec.sle _ 4095#32)) = _
  rw [h0, h1]
  rfl

/-- The dimension numbers of the gather. -/
abbrev G := gather_S4x4096x4096_S4x4096x5x1_S4x4096x5_n_2_01_01_2_3_111

/-- Where an element of the result reads its position. -/
theorem start_place (b : Fin 4) (u : Fin 4096) (k : Fin 5) (c : Fin G.startIndexMap.length) :
    (G.siIdx (ix3 b u k : S4x4096x5.Idx) c : S4x4096x5x1.Idx) = ix4 b u k (0 : Fin 1) := by
  funext a
  match a with
  | ⟨0, _⟩ => rfl
  | ⟨1, _⟩ => rfl
  | ⟨2, _⟩ => rfl
  | ⟨3, _⟩ => exact Fin.ext (Nat.lt_one_iff.mp c.isLt)

/-- An element of the gather is the table's entry in its own row at its position. -/
theorem gather_apply (x : FVec Ideal S4x4096x4096 .f32) (p : IVec S4x4096x5x1 32) (b : Fin 4) (u : Fin 4096) (k : Fin 5)
    (v : Fin 4096) (hp : p (ix4 b u k (0 : Fin 1)) = BitVec.ofNat 32 v.val) :
    Host.gather G x p (ix3 b u k) = x (ix3 b u v) := by
  unfold Host.gather
  refine congrArg x (place3 _ b u v ?_ ?_ ?_)
  · show G.start _ p 0 + G.batchCoord _ 0 + G.offCoord _ 0 = b.val
    rw [GatherDims.offCoord_eq_zero _ _ _ (by rw [GatherDims.mem_sKept]; decide), GatherDims.start_batching _ _ _ _ (by decide)]
    show 0 + b.val + 0 = b.val
    omega
  · show G.start _ p 1 + G.batchCoord _ 1 + G.offCoord _ 1 = u.val
    rw [GatherDims.offCoord_eq_zero _ _ _ (by rw [GatherDims.mem_sKept]; decide), GatherDims.start_batching _ _ _ _ (by decide)]
    show 0 + u.val + 0 = u.val
    omega
  · show G.start _ p 2 + G.batchCoord _ 2 + G.offCoord _ 2 = v.val
    rw [GatherDims.offCoord_eq_zero _ _ _ (by rw [GatherDims.mem_sKept]; decide), GatherDims.batchCoord_eq_zero _ _ _ (by decide)]
    unfold GatherDims.start
    rw [dif_pos (by decide), start_place, hp, toInt_small v.isLt]
    show min ((v.val : ℤ).toNat) (4096 - 1) + 0 + 0 = v.val
    have := v.isLt
    omega

/-- The entries taken at the neighbours' numbers are the correlations with the neighbours. -/
theorem taken_eq (A : FVec Ideal S4x4096x128 .f32) : taken (table A) (positions (idxArr A)) = weightArr A := by
  have hpos : ∀ j : S4x4096x5x1.Idx, ∃ n, n < 4096 ∧ positions (idxArr A) j = BitVec.ofNat 32 n := fun j =>
    ⟨_, (nbr (series A _) _ _).isLt, position_apply (idxArr A) (S4x4096x5.rowMajor.symm ((S4x4096x5x1.rowMajor j).cast (by decide))) _
      (Fin.isLt _) rfl j (by rw [Equiv.apply_symm_apply]; rfl)⟩
  have hred : Host.reduce IntOp.andi (inside (positions (idxArr A))) (constantI S_ 1 1#1)
      reducesTo_S4x4096x5x1_S4x4096x5_d3 h_S_ = fun _ => 1#1 := by
    funext j
    exact fold_ones _ _ fun n => by
      obtain ⟨q, hq, e⟩ := hpos (S4x4096x5x1.rowMajor.symm n)
      exact inside_apply _ _ q hq e
  funext i
  unfold taken
  rw [hred, select_apply, select_one]
  conv_lhs => rw [eq_ix3 i]
  refine (gather_apply (table A) _ (i 0) (i 1) (i 2) (nbr (series A (i 0)) (i 1) (i 2).val) ?_).trans
    (table_apply A (i 0) (i 1) _)
  refine position_apply (idxArr A) (ix3 (i 0) (i 1) (i 2)) _ (Fin.isLt _) rfl _ ?_
  rw [Shape.rowMajor_val_three, Shape.rowMajor_val_four]
  show ((i 0).val * 4096 + (i 1).val) * 5 + (i 2).val = (((i 0).val * 4096 + (i 1).val) * 5 + (i 2).val) * 1 + 0
  omega

end Cert.ReferenceIdeal.Ref

end
-- ==== Proof.RefResult.lean ====
/-
  What a run of the reference's program ends with: the same last change of layout as the kernel's program, of the same two
  arrays.
-/
module

public import proofs.«01_k».proof.Proof.RefChoice
public import proofs.«01_k».proof.Proof.Layout
public import proofs.«01_k».proof.Proof.Gen.ReferenceIdeal.Run

@[expose] public section

set_option maxRecDepth 16384

noncomputable section

namespace Cert.ReferenceIdeal.Ref

open Idealize.ShloMosaic Idealize.ShloMosaic.TcCoe Idealize.SL.Sem Cert.ReferenceIdeal Cert.ReferenceIdeal.Gen
open Cert.Arrays Cert.Layout

variable (m : (ℓ : Loc nD τ sig) → Buf (Elt Ideal) ℓ) (ρ : Dev nD → PrngReg)

/-- The argument on device `c`. -/
def inp (c : Dev nD) : FVec Ideal S4x4096x128 .f32 := m ((c.tc : Thread nD τ).loc main_arg0)

/-- The program's first result in the steps named. -/
theorem result_edges (c : Dev nD) : Value.res_out0 m c = edges (greatest (inp m c)) := rfl

/-- The program's second result in the steps named. -/
theorem result_flat (c : Dev nD) :
    Value.res_out1 m c = flat (taken (table (inp m c)) (positions (greatest (inp m c)))) := rfl

/-- The run: the two results, the argument unchanged. -/
theorem run : θ_run defs (onTc (τ := τ) (main (F := Ideal))) ⟨m, fun _ => 0, ρ⟩ fun r => ∀ c : Dev nD,
    r.2.mem ((c.tc : Thread nD τ).loc main_v38) = edges (idxArr (inp m c)) ∧
    r.2.mem ((c.tc : Thread nD τ).loc main_v39) = flat (weightArr (inp m c)) ∧
    r.2.mem ((c.tc : Thread nD τ).loc main_arg0) = m ((c.tc : Thread nD τ).loc main_arg0) := by
  refine (θ_run defs _ _).mono (fun r h c => ?_) (Value.run m ρ)
  obtain ⟨h0, h1, h2⟩ := h c
  refine ⟨h0.trans ((result_edges m c).trans (congrArg edges (greatest_eq _))), h1.trans ((result_flat m c).trans ?_), h2⟩
  rw [greatest_eq, taken_eq]

end Cert.ReferenceIdeal.Ref

end
-- ==== Proof.lean ====
/-
  The certificate's claim. Both programs end with the same change of layout (`Layout`) of two arrays (`Arrays`): for each
  node the numbers of the five nodes it correlates most with, greatest first, and those correlations.

  `Spec`          the mathematics: a series normalised, the correlation of two nodes, a masked row of correlations, the
                  neighbours a row picks
  `Rounds`        picking the maximum, lowest position first, and knocking it out, repeated, is a stable sort's prefix
  `BlockRounds`   the kernel's rounds on a block's product, read at an index
  `Block`         what the kernel's block computes: the neighbours and the correlations of its rows
  `Cases`         the block's two cases (the normalised array computed, and then read) compute the same
  `Arrays`        the two arrays; `Layout` the change of layout
  `KernelArrays`  what the kernel's two result arrays hold when the grid is done
  `KernelResult`  what a run of the kernel's program ends with
  `RefSeries`     the reference's normalised array, its table of correlations, and the table masked
  `RefChoice`     the reference's choice of neighbours and what it takes from the table at them
  `RefResult`     what a run of the reference's program ends with
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelResult
public import proofs.«01_k».proof.Proof.RefResult
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's program runs, leaves its argument unchanged and every counter at zero. -/
theorem frame_kernel : Cert.quiescent_Kernel (hKernel := Cert.Kernel.Gen.facts) :=
  fun m g _ => Cert.Kernel.Gen.frame m g

/-- So does the program over the extended reals. -/
theorem frame_ideal : Cert.quiescent_KernelIdeal (hKernelIdeal := Cert.KernelIdeal.Gen.facts) :=
  fun m g _ => Cert.KernelIdeal.Gen.frame m g

/-- So does the reference, whose program has no counter. -/
theorem frame_reference : Cert.quiescent_ReferenceIdeal (hReferenceIdeal := Cert.ReferenceIdeal.Gen.facts) :=
  fun m g _ => (θ_run Cert.ReferenceIdeal.defs _ _).mono
    (fun r h => ⟨fun c => (h c).2.2, sem_eq_zero_of_no_sems (by decide) r.2⟩) (Cert.ReferenceIdeal.Ref.run m g)

/-- From equal arguments the two programs end with equal results. -/
theorem equal : Cert.algebraic_KernelIdeal_ReferenceIdeal (hKernelIdeal := Cert.KernelIdeal.Gen.facts)
    (hReferenceIdeal := Cert.ReferenceIdeal.Gen.facts) := by
  intro m g m' g' _ hm
  refine ⟨fun c => Cert.Layout.edges (Cert.Arrays.idxArr (Cert.KernelIdeal.Final.inp m c)),
    fun c => Cert.Layout.flat (Cert.Arrays.weightArr (Cert.KernelIdeal.Final.inp m c)),
    Cert.KernelIdeal.Final.run m g, ?_⟩
  refine (θ_run Cert.ReferenceIdeal.defs _ _).mono (fun r h c => ?_) (Cert.ReferenceIdeal.Ref.run m' g')
  obtain ⟨h0, h1, h2⟩ := h c
  have e : Cert.ReferenceIdeal.Ref.inp m' c = Cert.KernelIdeal.Final.inp m c := hm c
  rw [e] at h0 h1
  exact ⟨h0, h1, h2⟩

/-- The claim. -/
theorem claim : Cert.Claim :=
  ⟨Cert.Kernel.Gen.facts, Cert.KernelIdeal.Gen.facts, Cert.ReferenceIdeal.Gen.facts,
    frame_kernel, frame_ideal, frame_reference, trivial, equal⟩

end Cert.Proof

end
